-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x256 : Shape := ⟨2, ![4096, 256]⟩
abbrev S1 : Shape := ⟨1, ![1]⟩
abbrev S32x128x4096 : Shape := ⟨3, ![32, 128, 4096]⟩
abbrev S32 : Shape := ⟨1, ![32]⟩
abbrev S30 : Shape := ⟨1, ![30]⟩
abbrev S_ : Shape := ⟨0, ![]⟩
abbrev S1x128x4096 : Shape := ⟨3, ![1, 128, 4096]⟩
abbrev S1x64x4096 : Shape := ⟨3, ![1, 64, 4096]⟩
abbrev S64x4096 : Shape := ⟨2, ![64, 4096]⟩
abbrev S128x256 : Shape := ⟨2, ![128, 256]⟩

abbrev nBuf : Space → Nat
  | .hbm => 5
  | .vmem => 5
  | .smem => 2
  | _ => 0

abbrev bufTy : (tb : Table) → Fin (tcTables nBuf tb) → BufTy
  | .hbm, ⟨0, _⟩ => ⟨S128x4096, .fp8e4m3⟩
  | .hbm, ⟨1, _⟩ => ⟨S4096x256, .fp8e4m3⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S128x4096, .fp8e4m3⟩
  | .local _ .vmem, ⟨1, _⟩ => ⟨S4096x256, .fp8e4m3⟩
  | .local _ .vmem, ⟨2, _⟩ => ⟨S4096x256, .f32⟩
  | .local _ .vmem, ⟨3, _⟩ => ⟨S32x128x4096, .fp8e4m3⟩
  | .local _ .vmem, ⟨4, _⟩ => ⟨S4096x256, .bf16⟩
  | .local _ .smem, ⟨0, _⟩ => ⟨S1, .f32⟩
  | .local _ .smem, ⟨1, _⟩ => ⟨S1, .f32⟩
  | _, _ => ⟨S128x4096, .fp8e4m3⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 129 → Bool
  | ⟨i, _⟩ => dmaSemScopedAt i

abbrev sig : RefSig :=
  (ofTc nBuf bufTy 1 129 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v18 : Index := Scalar.indexCast v2
  let c0_13 : Index := 0#32
  let c0_14 : Index := 0#32
  ![v18.toNat, 0, 0]
def k0_off2 (d0 : Dev nD) (c0_i32_15 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v22 : BitVec 32 := Scalar.subi v2 c0_i32_15
  let c32_i32_16 : BitVec 32 := 32#32
  let v23 : BitVec 32 := Scalar.addi v22 c32_i32_16
  let c32_i32_17 : BitVec 32 := 32#32
  let v24 : BitVec 32 := Scalar.remsi v23 c32_i32_17
  let c0_i32_22 : BitVec 32 := 0#32
  let c0_i32_23 : BitVec 32 := 0#32
  ![v24.toNat, 0, 0]
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_20 : BitVec 32 := 1#32
  let v25 : BitVec 32 := Scalar.muli v7 c1_i32_20
  let v26 : BitVec 32 := Scalar.addi c0_i32_21 v25
  v26.toNat
def k0_off3 (d0 : Dev nD) (c0_i32_26 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v35 : BitVec 32 := Scalar.addi v2 c0_i32_26
  let c32_i32_27 : BitVec 32 := 32#32
  let v36 : BitVec 32 := Scalar.remsi v35 c32_i32_27
  let c0_i32_32 : BitVec 32 := 0#32
  let c0_i32_33 : BitVec 32 := 0#32
  ![v36.toNat, 0, 0]
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_30 : BitVec 32 := 1#32
  let v37 : BitVec 32 := Scalar.muli v5 c1_i32_30
  let v38 : BitVec 32 := Scalar.addi c0_i32_31 v37
  v38.toNat
def k0_off4 (d0 : Dev nD) (c0_i32_36 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v47 : BitVec 32 := Scalar.subi v2 c0_i32_36
  let c32_i32_37 : BitVec 32 := 32#32
  let v48 : BitVec 32 := Scalar.addi v47 c32_i32_37
  let c32_i32_38 : BitVec 32 := 32#32
  let v49 : BitVec 32 := Scalar.remsi v48 c32_i32_38
  let c64_i32 : BitVec 32 := 64#32
  let c0_i32_43 : BitVec 32 := 0#32
  ![v49.toNat, 64, 0]
def k0_dev5 (d0 : Dev nD) : Nat :=
  let c0_i32_42 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_41 : BitVec 32 := 1#32
  let v50 : BitVec 32 := Scalar.muli v7 c1_i32_41
  let v51 : BitVec 32 := Scalar.addi c0_i32_42 v50
  v51.toNat
def k0_off5 (d0 : Dev nD) (c0_i32_46 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v60 : BitVec 32 := Scalar.addi v2 c0_i32_46
  let c32_i32_47 : BitVec 32 := 32#32
  let v61 : BitVec 32 := Scalar.remsi v60 c32_i32_47
  let c64_i32_52 : BitVec 32 := 64#32
  let c0_i32_53 : BitVec 32 := 0#32
  ![v61.toNat, 64, 0]
def k0_dev6 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_50 : BitVec 32 := 1#32
  let v62 : BitVec 32 := Scalar.muli v5 c1_i32_50
  let v63 : BitVec 32 := Scalar.addi c0_i32_51 v62
  v63.toNat
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v88 : BitVec 32 := Scalar.muli v2 c128_i32
  let v89 : Index := Scalar.indexCast v88
  let c0_65 : Index := 0#32
  ![v89.toNat, 0]
def k0_dev7 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_86 : BitVec 32 := 1#32
  let v108 : BitVec 32 := Scalar.muli v7 c1_i32_86
  let v109 : BitVec 32 := Scalar.addi c0_i32_87 v108
  v109.toNat
def k0_dev8 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_111 : BitVec 32 := 1#32
  let v135 : BitVec 32 := Scalar.muli v7 c1_i32_111
  let v136 : BitVec 32 := Scalar.addi c0_i32_112 v135
  v136.toNat
def k0_dev9 (d0 : Dev nD) : Nat :=
  let c0_i32_137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_136 : BitVec 32 := 1#32
  let v161 : BitVec 32 := Scalar.muli v5 c1_i32_136
  let v162 : BitVec 32 := Scalar.addi c0_i32_137 v161
  v162.toNat
def k0_dev10 (d0 : Dev nD) : Nat :=
  let c0_i32_162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_161 : BitVec 32 := 1#32
  let v187 : BitVec 32 := Scalar.muli v5 c1_i32_161
  let v188 : BitVec 32 := Scalar.addi c0_i32_162 v187
  v188.toNat
def k0_off7 (d0 : Dev nD) (c1_i32_167 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v197 : BitVec 32 := Scalar.subi v2 c1_i32_167
  let c32_i32_168 : BitVec 32 := 32#32
  let v198 : BitVec 32 := Scalar.addi v197 c32_i32_168
  let c32_i32_169 : BitVec 32 := 32#32
  let v199 : BitVec 32 := Scalar.remsi v198 c32_i32_169
  let v200 : Index := Scalar.indexCast v199
  let c0_170 : Index := 0#32
  let c0_171 : Index := 0#32
  ![v200.toNat, 0, 0]
def k0_off8 (d0 : Dev nD) (c1_i32_167 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v197 : BitVec 32 := Scalar.subi v2 c1_i32_167
  let c32_i32_168 : BitVec 32 := 32#32
  let v198 : BitVec 32 := Scalar.addi v197 c32_i32_168
  let c32_i32_169 : BitVec 32 := 32#32
  let v199 : BitVec 32 := Scalar.remsi v198 c32_i32_169
  let c128_i32_176 : BitVec 32 := 128#32
  let v210 : BitVec 32 := Scalar.muli v199 c128_i32_176
  let v211 : Index := Scalar.indexCast v210
  let c0_177 : Index := 0#32
  ![v211.toNat, 0]
def k0_off9 (d0 : Dev nD) (c1_i32_178 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v213 : BitVec 32 := Scalar.addi v2 c1_i32_178
  let c32_i32_179 : BitVec 32 := 32#32
  let v214 : BitVec 32 := Scalar.remsi v213 c32_i32_179
  let v215 : Index := Scalar.indexCast v214
  let c0_180 : Index := 0#32
  let c0_181 : Index := 0#32
  ![v215.toNat, 0, 0]
def k0_off10 (d0 : Dev nD) (c1_i32_178 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v213 : BitVec 32 := Scalar.addi v2 c1_i32_178
  let c32_i32_179 : BitVec 32 := 32#32
  let v214 : BitVec 32 := Scalar.remsi v213 c32_i32_179
  let c128_i32_186 : BitVec 32 := 128#32
  let v225 : BitVec 32 := Scalar.muli v214 c128_i32_186
  let v226 : Index := Scalar.indexCast v225
  let c0_187 : Index := 0#32
  ![v226.toNat, 0]
def k0_dev11 (d0 : Dev nD) : Nat :=
  let c0_i32_208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_207 : BitVec 32 := 1#32
  let v245 : BitVec 32 := Scalar.muli v7 c1_i32_207
  let v246 : BitVec 32 := Scalar.addi c0_i32_208 v245
  v246.toNat
def k0_dev12 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_232 : BitVec 32 := 1#32
  let v272 : BitVec 32 := Scalar.muli v7 c1_i32_232
  let v273 : BitVec 32 := Scalar.addi c0_i32_233 v272
  v273.toNat
def k0_dev13 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_257 : BitVec 32 := 1#32
  let v298 : BitVec 32 := Scalar.muli v5 c1_i32_257
  let v299 : BitVec 32 := Scalar.addi c0_i32_258 v298
  v299.toNat
def k0_dev14 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_282 : BitVec 32 := 1#32
  let v324 : BitVec 32 := Scalar.muli v5 c1_i32_282
  let v325 : BitVec 32 := Scalar.addi c0_i32_283 v324
  v325.toNat
def k0_dev15 (d0 : Dev nD) : Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_328 : BitVec 32 := 1#32
  let v382 : BitVec 32 := Scalar.muli v7 c1_i32_328
  let v383 : BitVec 32 := Scalar.addi c0_i32_329 v382
  v383.toNat
def k0_dev16 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_353 : BitVec 32 := 1#32
  let v409 : BitVec 32 := Scalar.muli v7 c1_i32_353
  let v410 : BitVec 32 := Scalar.addi c0_i32_354 v409
  v410.toNat
def k0_dev17 (d0 : Dev nD) : Nat :=
  let c0_i32_379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_378 : BitVec 32 := 1#32
  let v435 : BitVec 32 := Scalar.muli v5 c1_i32_378
  let v436 : BitVec 32 := Scalar.addi c0_i32_379 v435
  v436.toNat
def k0_dev18 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_403 : BitVec 32 := 1#32
  let v461 : BitVec 32 := Scalar.muli v5 c1_i32_403
  let v462 : BitVec 32 := Scalar.addi c0_i32_404 v461
  v462.toNat
def k0_dev19 (d0 : Dev nD) : Nat :=
  let c0_i32_450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_449 : BitVec 32 := 1#32
  let v519 : BitVec 32 := Scalar.muli v7 c1_i32_449
  let v520 : BitVec 32 := Scalar.addi c0_i32_450 v519
  v520.toNat
def k0_dev20 (d0 : Dev nD) : Nat :=
  let c0_i32_475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_474 : BitVec 32 := 1#32
  let v546 : BitVec 32 := Scalar.muli v7 c1_i32_474
  let v547 : BitVec 32 := Scalar.addi c0_i32_475 v546
  v547.toNat
def k0_dev21 (d0 : Dev nD) : Nat :=
  let c0_i32_500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_499 : BitVec 32 := 1#32
  let v572 : BitVec 32 := Scalar.muli v5 c1_i32_499
  let v573 : BitVec 32 := Scalar.addi c0_i32_500 v572
  v573.toNat
def k0_dev22 (d0 : Dev nD) : Nat :=
  let c0_i32_525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_524 : BitVec 32 := 1#32
  let v598 : BitVec 32 := Scalar.muli v5 c1_i32_524
  let v599 : BitVec 32 := Scalar.addi c0_i32_525 v598
  v599.toNat
def k0_dev23 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_570 : BitVec 32 := 1#32
  let v656 : BitVec 32 := Scalar.muli v7 c1_i32_570
  let v657 : BitVec 32 := Scalar.addi c0_i32_571 v656
  v657.toNat
def k0_dev24 (d0 : Dev nD) : Nat :=
  let c0_i32_596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_595 : BitVec 32 := 1#32
  let v683 : BitVec 32 := Scalar.muli v7 c1_i32_595
  let v684 : BitVec 32 := Scalar.addi c0_i32_596 v683
  v684.toNat
def k0_dev25 (d0 : Dev nD) : Nat :=
  let c0_i32_621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_620 : BitVec 32 := 1#32
  let v709 : BitVec 32 := Scalar.muli v5 c1_i32_620
  let v710 : BitVec 32 := Scalar.addi c0_i32_621 v709
  v710.toNat
def k0_dev26 (d0 : Dev nD) : Nat :=
  let c0_i32_646 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_645 : BitVec 32 := 1#32
  let v735 : BitVec 32 := Scalar.muli v5 c1_i32_645
  let v736 : BitVec 32 := Scalar.addi c0_i32_646 v735
  v736.toNat
def k0_dev27 (d0 : Dev nD) : Nat :=
  let c0_i32_692 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_691 : BitVec 32 := 1#32
  let v793 : BitVec 32 := Scalar.muli v7 c1_i32_691
  let v794 : BitVec 32 := Scalar.addi c0_i32_692 v793
  v794.toNat
def k0_dev28 (d0 : Dev nD) : Nat :=
  let c0_i32_717 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_716 : BitVec 32 := 1#32
  let v820 : BitVec 32 := Scalar.muli v7 c1_i32_716
  let v821 : BitVec 32 := Scalar.addi c0_i32_717 v820
  v821.toNat
def k0_dev29 (d0 : Dev nD) : Nat :=
  let c0_i32_742 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_741 : BitVec 32 := 1#32
  let v846 : BitVec 32 := Scalar.muli v5 c1_i32_741
  let v847 : BitVec 32 := Scalar.addi c0_i32_742 v846
  v847.toNat
def k0_dev30 (d0 : Dev nD) : Nat :=
  let c0_i32_767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_766 : BitVec 32 := 1#32
  let v872 : BitVec 32 := Scalar.muli v5 c1_i32_766
  let v873 : BitVec 32 := Scalar.addi c0_i32_767 v872
  v873.toNat
def k0_dev31 (d0 : Dev nD) : Nat :=
  let c0_i32_813 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_812 : BitVec 32 := 1#32
  let v930 : BitVec 32 := Scalar.muli v7 c1_i32_812
  let v931 : BitVec 32 := Scalar.addi c0_i32_813 v930
  v931.toNat
def k0_dev32 (d0 : Dev nD) : Nat :=
  let c0_i32_838 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_837 : BitVec 32 := 1#32
  let v957 : BitVec 32 := Scalar.muli v7 c1_i32_837
  let v958 : BitVec 32 := Scalar.addi c0_i32_838 v957
  v958.toNat
def k0_dev33 (d0 : Dev nD) : Nat :=
  let c0_i32_863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_862 : BitVec 32 := 1#32
  let v983 : BitVec 32 := Scalar.muli v5 c1_i32_862
  let v984 : BitVec 32 := Scalar.addi c0_i32_863 v983
  v984.toNat
def k0_dev34 (d0 : Dev nD) : Nat :=
  let c0_i32_888 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_887 : BitVec 32 := 1#32
  let v1009 : BitVec 32 := Scalar.muli v5 c1_i32_887
  let v1010 : BitVec 32 := Scalar.addi c0_i32_888 v1009
  v1010.toNat
def k0_dev35 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_933 : BitVec 32 := 1#32
  let v1067 : BitVec 32 := Scalar.muli v7 c1_i32_933
  let v1068 : BitVec 32 := Scalar.addi c0_i32_934 v1067
  v1068.toNat
def k0_dev36 (d0 : Dev nD) : Nat :=
  let c0_i32_959 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_958 : BitVec 32 := 1#32
  let v1094 : BitVec 32 := Scalar.muli v7 c1_i32_958
  let v1095 : BitVec 32 := Scalar.addi c0_i32_959 v1094
  v1095.toNat
def k0_dev37 (d0 : Dev nD) : Nat :=
  let c0_i32_984 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_983 : BitVec 32 := 1#32
  let v1120 : BitVec 32 := Scalar.muli v5 c1_i32_983
  let v1121 : BitVec 32 := Scalar.addi c0_i32_984 v1120
  v1121.toNat
def k0_dev38 (d0 : Dev nD) : Nat :=
  let c0_i32_1009 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1008 : BitVec 32 := 1#32
  let v1146 : BitVec 32 := Scalar.muli v5 c1_i32_1008
  let v1147 : BitVec 32 := Scalar.addi c0_i32_1009 v1146
  v1147.toNat
def k0_dev39 (d0 : Dev nD) : Nat :=
  let c0_i32_1055 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1054 : BitVec 32 := 1#32
  let v1204 : BitVec 32 := Scalar.muli v7 c1_i32_1054
  let v1205 : BitVec 32 := Scalar.addi c0_i32_1055 v1204
  v1205.toNat
def k0_dev40 (d0 : Dev nD) : Nat :=
  let c0_i32_1080 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1079 : BitVec 32 := 1#32
  let v1231 : BitVec 32 := Scalar.muli v7 c1_i32_1079
  let v1232 : BitVec 32 := Scalar.addi c0_i32_1080 v1231
  v1232.toNat
def k0_dev41 (d0 : Dev nD) : Nat :=
  let c0_i32_1105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1104 : BitVec 32 := 1#32
  let v1257 : BitVec 32 := Scalar.muli v5 c1_i32_1104
  let v1258 : BitVec 32 := Scalar.addi c0_i32_1105 v1257
  v1258.toNat
def k0_dev42 (d0 : Dev nD) : Nat :=
  let c0_i32_1130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1129 : BitVec 32 := 1#32
  let v1283 : BitVec 32 := Scalar.muli v5 c1_i32_1129
  let v1284 : BitVec 32 := Scalar.addi c0_i32_1130 v1283
  v1284.toNat
def k0_dev43 (d0 : Dev nD) : Nat :=
  let c0_i32_1176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1175 : BitVec 32 := 1#32
  let v1341 : BitVec 32 := Scalar.muli v7 c1_i32_1175
  let v1342 : BitVec 32 := Scalar.addi c0_i32_1176 v1341
  v1342.toNat
def k0_dev44 (d0 : Dev nD) : Nat :=
  let c0_i32_1201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1200 : BitVec 32 := 1#32
  let v1368 : BitVec 32 := Scalar.muli v7 c1_i32_1200
  let v1369 : BitVec 32 := Scalar.addi c0_i32_1201 v1368
  v1369.toNat
def k0_dev45 (d0 : Dev nD) : Nat :=
  let c0_i32_1226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1225 : BitVec 32 := 1#32
  let v1394 : BitVec 32 := Scalar.muli v5 c1_i32_1225
  let v1395 : BitVec 32 := Scalar.addi c0_i32_1226 v1394
  v1395.toNat
def k0_dev46 (d0 : Dev nD) : Nat :=
  let c0_i32_1251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1250 : BitVec 32 := 1#32
  let v1420 : BitVec 32 := Scalar.muli v5 c1_i32_1250
  let v1421 : BitVec 32 := Scalar.addi c0_i32_1251 v1420
  v1421.toNat
def k0_dev47 (d0 : Dev nD) : Nat :=
  let c0_i32_1297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1296 : BitVec 32 := 1#32
  let v1478 : BitVec 32 := Scalar.muli v7 c1_i32_1296
  let v1479 : BitVec 32 := Scalar.addi c0_i32_1297 v1478
  v1479.toNat
def k0_dev48 (d0 : Dev nD) : Nat :=
  let c0_i32_1322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1321 : BitVec 32 := 1#32
  let v1505 : BitVec 32 := Scalar.muli v7 c1_i32_1321
  let v1506 : BitVec 32 := Scalar.addi c0_i32_1322 v1505
  v1506.toNat
def k0_dev49 (d0 : Dev nD) : Nat :=
  let c0_i32_1347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1346 : BitVec 32 := 1#32
  let v1531 : BitVec 32 := Scalar.muli v5 c1_i32_1346
  let v1532 : BitVec 32 := Scalar.addi c0_i32_1347 v1531
  v1532.toNat
def k0_dev50 (d0 : Dev nD) : Nat :=
  let c0_i32_1372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1371 : BitVec 32 := 1#32
  let v1557 : BitVec 32 := Scalar.muli v5 c1_i32_1371
  let v1558 : BitVec 32 := Scalar.addi c0_i32_1372 v1557
  v1558.toNat
def k0_dev51 (d0 : Dev nD) : Nat :=
  let c0_i32_1418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1417 : BitVec 32 := 1#32
  let v1615 : BitVec 32 := Scalar.muli v7 c1_i32_1417
  let v1616 : BitVec 32 := Scalar.addi c0_i32_1418 v1615
  v1616.toNat
def k0_dev52 (d0 : Dev nD) : Nat :=
  let c0_i32_1443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1442 : BitVec 32 := 1#32
  let v1642 : BitVec 32 := Scalar.muli v7 c1_i32_1442
  let v1643 : BitVec 32 := Scalar.addi c0_i32_1443 v1642
  v1643.toNat
def k0_dev53 (d0 : Dev nD) : Nat :=
  let c0_i32_1468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1467 : BitVec 32 := 1#32
  let v1668 : BitVec 32 := Scalar.muli v5 c1_i32_1467
  let v1669 : BitVec 32 := Scalar.addi c0_i32_1468 v1668
  v1669.toNat
def k0_dev54 (d0 : Dev nD) : Nat :=
  let c0_i32_1493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1492 : BitVec 32 := 1#32
  let v1694 : BitVec 32 := Scalar.muli v5 c1_i32_1492
  let v1695 : BitVec 32 := Scalar.addi c0_i32_1493 v1694
  v1695.toNat
def k0_dev55 (d0 : Dev nD) : Nat :=
  let c0_i32_1539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1538 : BitVec 32 := 1#32
  let v1752 : BitVec 32 := Scalar.muli v7 c1_i32_1538
  let v1753 : BitVec 32 := Scalar.addi c0_i32_1539 v1752
  v1753.toNat
def k0_dev56 (d0 : Dev nD) : Nat :=
  let c0_i32_1564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1563 : BitVec 32 := 1#32
  let v1779 : BitVec 32 := Scalar.muli v7 c1_i32_1563
  let v1780 : BitVec 32 := Scalar.addi c0_i32_1564 v1779
  v1780.toNat
def k0_dev57 (d0 : Dev nD) : Nat :=
  let c0_i32_1589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1588 : BitVec 32 := 1#32
  let v1805 : BitVec 32 := Scalar.muli v5 c1_i32_1588
  let v1806 : BitVec 32 := Scalar.addi c0_i32_1589 v1805
  v1806.toNat
def k0_dev58 (d0 : Dev nD) : Nat :=
  let c0_i32_1614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1613 : BitVec 32 := 1#32
  let v1831 : BitVec 32 := Scalar.muli v5 c1_i32_1613
  let v1832 : BitVec 32 := Scalar.addi c0_i32_1614 v1831
  v1832.toNat
def k0_dev59 (d0 : Dev nD) : Nat :=
  let c0_i32_1660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1659 : BitVec 32 := 1#32
  let v1889 : BitVec 32 := Scalar.muli v7 c1_i32_1659
  let v1890 : BitVec 32 := Scalar.addi c0_i32_1660 v1889
  v1890.toNat
def k0_dev60 (d0 : Dev nD) : Nat :=
  let c0_i32_1685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1684 : BitVec 32 := 1#32
  let v1916 : BitVec 32 := Scalar.muli v7 c1_i32_1684
  let v1917 : BitVec 32 := Scalar.addi c0_i32_1685 v1916
  v1917.toNat
def k0_dev61 (d0 : Dev nD) : Nat :=
  let c0_i32_1710 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1709 : BitVec 32 := 1#32
  let v1942 : BitVec 32 := Scalar.muli v5 c1_i32_1709
  let v1943 : BitVec 32 := Scalar.addi c0_i32_1710 v1942
  v1943.toNat
def k0_dev62 (d0 : Dev nD) : Nat :=
  let c0_i32_1735 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1734 : BitVec 32 := 1#32
  let v1968 : BitVec 32 := Scalar.muli v5 c1_i32_1734
  let v1969 : BitVec 32 := Scalar.addi c0_i32_1735 v1968
  v1969.toNat
def k0_dev63 (d0 : Dev nD) : Nat :=
  let c0_i32_1781 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1780 : BitVec 32 := 1#32
  let v2026 : BitVec 32 := Scalar.muli v7 c1_i32_1780
  let v2027 : BitVec 32 := Scalar.addi c0_i32_1781 v2026
  v2027.toNat
def k0_dev64 (d0 : Dev nD) : Nat :=
  let c0_i32_1806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1805 : BitVec 32 := 1#32
  let v2053 : BitVec 32 := Scalar.muli v7 c1_i32_1805
  let v2054 : BitVec 32 := Scalar.addi c0_i32_1806 v2053
  v2054.toNat
abbrev stage0_0 : Fin 1 → Memref sig .tc .vmem S128x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e4m3⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Plan.lean ====
/- The body of the kernel written by steps: one definition for a copy's start, one for a wait on a copy, one for the
   product of one chunk, and one for a whole step of the ring; the printed body is these steps in a row. -/
module

public import proofs.«01_k».proof.Proof.Gen.KernelIdeal.Skeleton

@[expose] public section

set_option synthInstance.maxSize 4096

noncomputable section

namespace Cert.KernelIdeal.Plan

open Idealize.ShloMosaic Idealize.SL.Sem
open Cert.KernelIdeal.Gen

variable {F : FTy → Type} [FloatOps F]

/-- Half a chunk of the gathered activations: 64 rows, at offsets `o`. -/
abbrev piece (arg5 : Memref sig .tc .vmem S32x128x4096 .fp8e4m3) (o : Fin 3 → Nat)
    (ho : ∀ a, o a + S1x64x4096.size a ≤ S32x128x4096.size a) : Memref sig .tc .vmem S64x4096 .fp8e4m3 :=
  (arg5.slice (Rect.unit (s := S32x128x4096) o S1x64x4096.size ho) (fun _ => rfl)).squeeze S64x4096 squeezes_S1x64x4096_S64x4096

/-- Semaphore `j` of an array of 32. -/
abbrev sem32 (s : DmaSems sig S32) (j : Nat) (hj : ∀ a, (![j] : Fin 1 → Nat) a + S1.size a ≤ S32.size a) : DmaSems sig S_ :=
  (s.slice (Rect.unit (s := S32) ![j] S1.size hj)).squeeze S_ squeezes_S1_S_
/-- Semaphore `j` of an array of 30. -/
abbrev sem30 (s : DmaSems sig S30) (j : Nat) (hj : ∀ a, (![j] : Fin 1 → Nat) a + S1.size a ≤ S30.size a) : DmaSems sig S_ :=
  (s.slice (Rect.unit (s := S30) ![j] S1.size hj)).squeeze S_ squeezes_S1_S_

section
variable (arg5 : Memref sig .tc .vmem S32x128x4096 .fp8e4m3) (harg5 : arg5.IsWhole)

/-- Start the copy of a piece to the same place on `dst`. -/
abbrev startC (o : Fin 3 → Nat) (ho : ∀ a, o a + S1x64x4096.size a ≤ S32x128x4096.size a)
    (hw : (Rect.unit (s := S32x128x4096) o S1x64x4096.size ho).WholeWords (EltTy.packing .fp8e4m3))
    (sS sR : DmaSem sig) (dst : Dev nD) : Prog (TpuEff nD τ sig (Elt F) Λ₀ .tc) PUnit :=
  Prog.lift (.enqueueDma (piece arg5 o ho) (.remote (Dev.tc dst) (piece arg5 o ho) (.dma sS)) (.dma sR)
    ((harg5.wordExact_slice rfl _ hw).reshape _ _) ((harg5.wordExact_slice rfl _ hw).reshape _ _) ⟨⟨rfl, Or.inl rfl⟩, trivial⟩)

/-- Wait on `s` for the bytes of one piece. -/
abbrev waitC (o : Fin 3 → Nat) (ho : ∀ a, o a + S1x64x4096.size a ≤ S32x128x4096.size a)
    (hw : (Rect.unit (s := S32x128x4096) o S1x64x4096.size ho).WholeWords (EltTy.packing .fp8e4m3))
    (s : DmaSem sig) : Prog (TpuEff nD τ sig (Elt F) Λ₀ .tc) PUnit :=
  Prog.lift (.waitDma2 s (piece arg5 o ho) (piece arg5 o ho)
    ((harg5.wordExact_slice rfl _ hw).reshape _ _) ((harg5.wordExact_slice rfl _ hw).reshape _ _))

/-- The product of the chunk at `o`, into the rows at `q` of the output. -/
abbrev gemmC (arg4 : Memref sig .tc .vmem S4096x256 .f32) (arg6 : Memref sig .tc .vmem S4096x256 .bf16) (v15 : F .f32)
    (o : Fin 3 → Nat) (ho : ∀ a, o a + S1x128x4096.size a ≤ S32x128x4096.size a)
    (q : Fin 2 → Nat) (hq : ∀ a, q a + S128x256.size a ≤ S4096x256.size a) : Prog (TpuEff nD τ sig (Elt F) Λ₀ .tc) PUnit := do
  let v79 : Vec F S1x128x4096 .fp8e4m3 ← Prog.lift (.load arg5 (Rect.unit (s := S32x128x4096) o S1x128x4096.size ho).toLoadRect (View.loadsAt_vmem h_S1x128x4096))
  let v82 : Vec F S4096x256 .bf16 ← Prog.lift (.load arg6 (Rect.unit (s := S4096x256) ![0, 0] S4096x256.size inb_S4096x256_S4096x256_0_0).toLoadRect (View.loadsAt_vmem h_S4096x256))
  let v90 : Vec F S128x256 .f32 ← Prog.lift (.load arg4 (Rect.unit (s := S4096x256) q S128x256.size hq).toLoadRect (View.loadsAt_vmem h_S128x256))
  Prog.lift (.store arg4 (Rect.unit (s := S4096x256) q S128x256.size hq) (k0_pay5 v15 v79 v82) Finset.univ (View.stores_vmem_bits_univ h_S128x256 rfl) (.inl rfl))
end

theorem inb32 (j : Nat) (hj : j < 32) : ∀ a, (![j] : Fin 1 → Nat) a + S1.size a ≤ S32.size a := by
  intro a; fin_cases a; show j + 1 ≤ 32; omega
theorem inb30 (j : Nat) (hj : j < 30) : ∀ a, (![j] : Fin 1 → Nat) a + S1.size a ≤ S30.size a := by
  intro a; fin_cases a; show j + 1 ≤ 30; omega

section
variable (arg4 : Memref sig .tc .vmem S4096x256 .f32)
  (arg5 : Memref sig .tc .vmem S32x128x4096 .fp8e4m3) (harg5 : arg5.IsWhole) (arg6 : Memref sig .tc .vmem S4096x256 .bf16)
  (arg7 arg8 : DmaSems sig S32) (arg9 arg10 : DmaSems sig S30) (d0 : Dev nD)

/-- The right and the left neighbour, as the body computes them. -/
abbrev rt : Dev nD := ⟨k0_dev3 d0, k0_dev3_lt d0⟩
abbrev lt : Dev nD := ⟨k0_dev4 d0, k0_dev4_lt d0⟩

/-- The copy to the right of step `h`, its first and second half. -/
abbrev sF0 (h : Fin 16) : Prog (TpuEff nD τ sig (Elt F) Λ₀ .tc) PUnit :=
  startC arg5 harg5 (k0_off2 d0 (BitVec.ofNat 32 h.val)) (k0_off2_inb d0 h) (k0_off2_wordsfp8e4m3 d0 h)
    (sem32 arg7 (2 * h.val) (inb32 _ (by omega))).sem (sem32 arg8 (2 * h.val) (inb32 _ (by omega))).sem (rt d0)
abbrev sF1 (h : Fin 16) : Prog (TpuEff nD τ sig (Elt F) Λ₀ .tc) PUnit :=
  startC arg5 harg5 (k0_off4 d0 (BitVec.ofNat 32 h.val)) (k0_off4_inb d0 h) (k0_off4_wordsfp8e4m3 d0 h)
    (sem32 arg7 (2 * h.val + 1) (inb32 _ (by omega))).sem (sem32 arg8 (2 * h.val + 1) (inb32 _ (by omega))).sem (rt d0)
/-- The copy to the left of step `h`. -/
abbrev sB0 (h : Fin 15) : Prog (TpuEff nD τ sig (Elt F) Λ₀ .tc) PUnit :=
  startC arg5 harg5 (k0_off3 d0 (BitVec.ofNat 32 h.val)) (k0_off3_inb d0 h) (k0_off3_wordsfp8e4m3 d0 h)
    (sem30 arg9 (2 * h.val) (inb30 _ (by omega))).sem (sem30 arg10 (2 * h.val) (inb30 _ (by omega))).sem (lt d0)
abbrev sB1 (h : Fin 15) : Prog (TpuEff nD τ sig (Elt F) Λ₀ .tc) PUnit :=
  startC arg5 harg5 (k0_off5 d0 (BitVec.ofNat 32 h.val)) (k0_off5_inb d0 h) (k0_off5_wordsfp8e4m3 d0 h)
    (sem30 arg9 (2 * h.val + 1) (inb30 _ (by omega))).sem (sem30 arg10 (2 * h.val + 1) (inb30 _ (by omega))).sem (lt d0)

/-- The two waits on a copy of step `h`: the landing of the neighbour's and the end of one's own. -/
abbrev wF0 (h : Fin 16) : Prog (TpuEff nD τ sig (Elt F) Λ₀ .tc) PUnit := do
  waitC arg5 harg5 (k0_off2 d0 (BitVec.ofNat 32 h.val)) (k0_off2_inb d0 h) (k0_off2_wordsfp8e4m3 d0 h) (sem32 arg8 (2 * h.val) (inb32 _ (by omega))).sem
  waitC arg5 harg5 (k0_off2 d0 (BitVec.ofNat 32 h.val)) (k0_off2_inb d0 h) (k0_off2_wordsfp8e4m3 d0 h) (sem32 arg7 (2 * h.val) (inb32 _ (by omega))).sem
abbrev wF1 (h : Fin 16) : Prog (TpuEff nD τ sig (Elt F) Λ₀ .tc) PUnit := do
  waitC arg5 harg5 (k0_off4 d0 (BitVec.ofNat 32 h.val)) (k0_off4_inb d0 h) (k0_off4_wordsfp8e4m3 d0 h) (sem32 arg8 (2 * h.val + 1) (inb32 _ (by omega))).sem
  waitC arg5 harg5 (k0_off4 d0 (BitVec.ofNat 32 h.val)) (k0_off4_inb d0 h) (k0_off4_wordsfp8e4m3 d0 h) (sem32 arg7 (2 * h.val + 1) (inb32 _ (by omega))).sem
abbrev wB0 (h : Fin 15) : Prog (TpuEff nD τ sig (Elt F) Λ₀ .tc) PUnit := do
  waitC arg5 harg5 (k0_off3 d0 (BitVec.ofNat 32 h.val)) (k0_off3_inb d0 h) (k0_off3_wordsfp8e4m3 d0 h) (sem30 arg10 (2 * h.val) (inb30 _ (by omega))).sem
  waitC arg5 harg5 (k0_off3 d0 (BitVec.ofNat 32 h.val)) (k0_off3_inb d0 h) (k0_off3_wordsfp8e4m3 d0 h) (sem30 arg9 (2 * h.val) (inb30 _ (by omega))).sem
abbrev wB1 (h : Fin 15) : Prog (TpuEff nD τ sig (Elt F) Λ₀ .tc) PUnit := do
  waitC arg5 harg5 (k0_off5 d0 (BitVec.ofNat 32 h.val)) (k0_off5_inb d0 h) (k0_off5_wordsfp8e4m3 d0 h) (sem30 arg10 (2 * h.val + 1) (inb30 _ (by omega))).sem
  waitC arg5 harg5 (k0_off5 d0 (BitVec.ofNat 32 h.val)) (k0_off5_inb d0 h) (k0_off5_wordsfp8e4m3 d0 h) (sem30 arg9 (2 * h.val + 1) (inb30 _ (by omega))).sem

/-- The product of the chunk `r + 1` places to the left, and to the right. -/
abbrev gL (v15 : F .f32) (r : Fin 15) : Prog (TpuEff nD τ sig (Elt F) Λ₀ .tc) PUnit :=
  gemmC arg5 arg4 arg6 v15 (k0_off7 d0 (BitVec.ofNat 32 (1 + r.val))) (k0_off7_inb d0 r) (k0_off8 d0 (BitVec.ofNat 32 (1 + r.val))) (k0_off8_inb d0 r)
abbrev gR (v15 : F .f32) (r : Fin 16) : Prog (TpuEff nD τ sig (Elt F) Λ₀ .tc) PUnit :=
  gemmC arg5 arg4 arg6 v15 (k0_off9 d0 (BitVec.ofNat 32 (1 + r.val))) (k0_off9_inb d0 r) (k0_off10 d0 (BitVec.ofNat 32 (1 + r.val))) (k0_off10_inb d0 r)

/-- Step `r + 1` of the ring, of those that send both ways. -/
def hop (v15 : F .f32) (r : Fin 14) : Prog (TpuEff nD τ sig (Elt F) Λ₀ .tc) PUnit := do
  wF0 arg5 harg5 arg7 arg8 d0 ⟨r.val, by omega⟩
  sF0 arg5 harg5 arg7 arg8 d0 ⟨r.val + 1, by omega⟩
  wF1 arg5 harg5 arg7 arg8 d0 ⟨r.val, by omega⟩
  sF1 arg5 harg5 arg7 arg8 d0 ⟨r.val + 1, by omega⟩
  wB0 arg5 harg5 arg9 arg10 d0 ⟨r.val, by omega⟩
  sB0 arg5 harg5 arg9 arg10 d0 ⟨r.val + 1, by omega⟩
  wB1 arg5 harg5 arg9 arg10 d0 ⟨r.val, by omega⟩
  sB1 arg5 harg5 arg9 arg10 d0 ⟨r.val + 1, by omega⟩
  gL arg4 arg5 arg6 d0 v15 ⟨r.val, by omega⟩
  gR arg4 arg5 arg6 d0 v15 ⟨r.val, by omega⟩

/-- Steps `n + 1`, …, `14` and then `k`. -/
def hops (v15 : F .f32) (k : Prog (TpuEff nD τ sig (Elt F) Λ₀ .tc) PUnit) : List (Fin 14) → Prog (TpuEff nD τ sig (Elt F) Λ₀ .tc) PUnit
  | [] => k
  | r :: l => hop arg4 arg5 harg5 arg6 arg7 arg8 arg9 arg10 d0 v15 r >>= fun _ => hops v15 k l

/-- The last step that sends (to the right only), and what comes after it. -/
def closing (v15 : F .f32) : Prog (TpuEff nD τ sig (Elt F) Λ₀ .tc) PUnit := do
  wF0 arg5 harg5 arg7 arg8 d0 14
  sF0 arg5 harg5 arg7 arg8 d0 15
  wF1 arg5 harg5 arg7 arg8 d0 14
  sF1 arg5 harg5 arg7 arg8 d0 15
  wB0 arg5 harg5 arg9 arg10 d0 14
  wB1 arg5 harg5 arg9 arg10 d0 14
  gL arg4 arg5 arg6 d0 v15 14
  gR arg4 arg5 arg6 d0 v15 14
  wF0 arg5 harg5 arg7 arg8 d0 15
  wF1 arg5 harg5 arg7 arg8 d0 15
  gR arg4 arg5 arg6 d0 v15 15
end

variable (arg0 : Memref sig .tc .vmem S128x4096 .fp8e4m3) (harg0 : arg0.IsWhole) (arg1 : Memref sig .tc .vmem S4096x256 .fp8e4m3) (harg1 : arg1.IsWhole) (arg2 : Memref sig .tc .smem S1 .f32) (harg2 : arg2.IsWhole) (arg3 : Memref sig .tc .smem S1 .f32) (harg3 : arg3.IsWhole) (arg4 : Memref sig .tc .vmem S4096x256 .f32) (harg4 : arg4.IsWhole) (arg5 : Memref sig .tc .vmem S32x128x4096 .fp8e4m3) (harg5 : arg5.IsWhole) (arg6 : Memref sig .tc .vmem S4096x256 .bf16) (harg6 : arg6.IsWhole) (arg7 : DmaSems sig S32) (arg8 : DmaSems sig S32) (arg9 : DmaSems sig S30) (arg10 : DmaSems sig S30)

/-- The whole body by steps. -/
def body : Prog (TpuEff nD τ sig (Elt F) Λ₀ .tc) PUnit := do
  let d0 : Dev nD ← Prog.lift .deviceId
  let v8 : Sems sig S_ := SemArray.scalar (sig.barrier 0 rfl)
  semSignalWord (lt d0) v8.sem 1#32
  semSignalWord (rt d0) v8.sem 1#32
  semWaitWord v8.sem 2#32
  let v13 : Elt F .f32 ← smemLoad arg2 (Rect.unit (s := S1) ![0] S1.size inb_S1_S1_0) numel1_S1 rfl
  let v14 : Elt F .f32 ← smemLoad arg3 (Rect.unit (s := S1) ![0] S1.size inb_S1_S1_0) numel1_S1 rfl
  let v16 : Vec F S128x4096 .fp8e4m3 ← Prog.lift (.load arg0 (Rect.unit (s := S128x4096) ![0, 0] S128x4096.size inb_S128x4096_S128x4096_0_0).toLoadRect (View.loadsAt_vmem h_S128x4096))
  let v19 : Vec F S1x128x4096 .fp8e4m3 ← Prog.lift (.load arg5 (Rect.unit (s := S32x128x4096) (k0_off1 d0) S1x128x4096.size (k0_off1_inb d0)).toLoadRect (View.loadsAt_vmem h_S1x128x4096))
  Prog.lift (.store arg5 (Rect.unit (s := S32x128x4096) (k0_off1 d0) S1x128x4096.size (k0_off1_inb d0)) (k0_pay3 v16) Finset.univ (View.stores_vmem h_S1x128x4096 (harg5.storeExact_slice rfl _ (k0_off1_packedfp8e4m3 d0)) (fun _ => rfl)) (.inl rfl))
  sF0 arg5 harg5 arg7 arg8 d0 0
  sB0 arg5 harg5 arg9 arg10 d0 0
  sF1 arg5 harg5 arg7 arg8 d0 0
  sB1 arg5 harg5 arg9 arg10 d0 0
  let v72 : Vec F S4096x256 .fp8e4m3 ← Prog.lift (.load arg1 (Rect.unit (s := S4096x256) ![0, 0] S4096x256.size inb_S4096x256_S4096x256_0_0).toLoadRect (View.loadsAt_vmem h_S4096x256))
  let v75 : Vec F S4096x256 .bf16 ← Prog.lift (.load arg6 (Rect.unit (s := S4096x256) ![0, 0] S4096x256.size inb_S4096x256_S4096x256_0_0).toLoadRect (View.loadsAt_vmem h_S4096x256))
  Prog.lift (.store arg6 (Rect.unit (s := S4096x256) ![0, 0] S4096x256.size inb_S4096x256_S4096x256_0_0) (k0_pay4 v72) Finset.univ (View.stores_vmem h_S4096x256 (harg6.storeExact_slice rfl _ packedbf16_S4096x256_S4096x256_0_0) (fun _ => rfl)) (.inl rfl))
  gemmC arg5 arg4 arg6 (k0_pay2 v13 v14) (k0_off1 d0) (k0_off1_inb d0) (k0_off6 d0) (k0_off6_inb d0)
  hops arg4 arg5 harg5 arg6 arg7 arg8 arg9 arg10 d0 (k0_pay2 v13 v14)
    (closing arg4 arg5 harg5 arg6 arg7 arg8 arg9 arg10 d0 (k0_pay2 v13 v14)) (List.finRange 14)

set_option maxRecDepth 65536 in
set_option maxHeartbeats 4000000 in
/-- The printed body is the body by steps: both unfold to the same sequence of operations. -/
theorem body_eq : cc0_body arg0 harg0 arg1 harg1 arg2 harg2 arg3 harg3 arg4 harg4 arg5 harg5 arg6 harg6 arg7 arg8 arg9 arg10
    = body (F := F) arg0 arg1 arg2 arg3 arg4 arg5 harg5 arg6 harg6 arg7 arg8 arg9 arg10 := rfl

end Cert.KernelIdeal.Plan
-- ==== Proof.Pieces.lean ====
/- The copies of the ring and the pieces they move: which semaphores each copy uses, which piece it sends, where the
   piece lands, and that the pieces of the gathered buffer are all different and together the whole. -/
module

public import proofs.«01_k».proof.Proof.Plan
public import Idealize.ShloMosaic.Lib.Tactic
public import Idealize.ShloMosaic.Lib.Pipeline.ValueKit.Geometry

@[expose] public section

noncomputable section

namespace Cert.KernelIdeal.Ring

open Idealize.ShloMosaic Idealize.ShloMosaic.TcCoe
open Cert.KernelIdeal.Gen Cert.KernelIdeal.Plan

/-- The copies a device starts: to the right (`inl`) in sixteen steps, to the left (`inr`) in fifteen, each step in
    two halves. -/
abbrev T : Type := (Fin 2 × Fin 16) ⊕ (Fin 2 × Fin 15)

/-- The step of a copy, and which half of the chunk it moves. -/
def hopOf : T → ℕ | .inl p => p.2.val | .inr p => p.2.val
def halfOf : T → Fin 2 | .inl p => p.1 | .inr p => p.1

/-- The semaphore that counts a copy at its sender, and the one at its receiver. -/
def sS : T → DmaSem sig
  | .inl p => (sem32 cc0_scratch2 (2 * p.2.val + p.1.val) (inb32 _ (by omega))).sem
  | .inr p => (sem30 cc0_scratch4 (2 * p.2.val + p.1.val) (inb30 _ (by omega))).sem
def sR : T → DmaSem sig
  | .inl p => (sem32 cc0_scratch3 (2 * p.2.val + p.1.val) (inb32 _ (by omega))).sem
  | .inr p => (sem30 cc0_scratch5 (2 * p.2.val + p.1.val) (inb30 _ (by omega))).sem

/-- The semaphores' numbers. -/
def sSv : T → ℕ | .inl p => 5 + (2 * p.2.val + p.1.val) | .inr p => 69 + (2 * p.2.val + p.1.val)
def sRv : T → ℕ | .inl p => 37 + (2 * p.2.val + p.1.val) | .inr p => 99 + (2 * p.2.val + p.1.val)

set_option maxRecDepth 8000 in
theorem sS_val : ∀ t, (sS t).val = sSv t := by
  rintro (⟨b, h⟩ | ⟨b, h⟩) <;> revert b h <;> decide
set_option maxRecDepth 8000 in
theorem sR_val : ∀ t, (sR t).val = sRv t := by
  rintro (⟨b, h⟩ | ⟨b, h⟩) <;> revert b h <;> decide

theorem sSv_inj {t t' : T} (h : sSv t = sSv t') : t = t' := by
  rcases t with ⟨b, h1⟩ | ⟨b, h1⟩ <;> rcases t' with ⟨b', h2⟩ | ⟨b', h2⟩ <;> simp only [sSv] at h
  · have : b = b' := Fin.ext (by omega)
    have : h1 = h2 := Fin.ext (by omega)
    subst_vars; rfl
  · omega
  · omega
  · have : b = b' := Fin.ext (by omega)
    have : h1 = h2 := Fin.ext (by omega)
    subst_vars; rfl
theorem sRv_inj {t t' : T} (h : sRv t = sRv t') : t = t' := by
  rcases t with ⟨b, h1⟩ | ⟨b, h1⟩ <;> rcases t' with ⟨b', h2⟩ | ⟨b', h2⟩ <;> simp only [sRv] at h
  · have : b = b' := Fin.ext (by omega)
    have : h1 = h2 := Fin.ext (by omega)
    subst_vars; rfl
  · omega
  · omega
  · have : b = b' := Fin.ext (by omega)
    have : h1 = h2 := Fin.ext (by omega)
    subst_vars; rfl
theorem sSv_ne_sRv (t t' : T) : sSv t ≠ sRv t' := by
  rcases t with ⟨b, h1⟩ | ⟨b, h1⟩ <;> rcases t' with ⟨b', h2⟩ | ⟨b', h2⟩ <;> simp only [sSv, sRv] <;> omega
theorem sSv_ge (t : T) : 5 ≤ sSv t := by rcases t with ⟨b, h1⟩ | ⟨b, h1⟩ <;> simp only [sSv] <;> omega
theorem sRv_ge (t : T) : 5 ≤ sRv t := by rcases t with ⟨b, h1⟩ | ⟨b, h1⟩ <;> simp only [sRv] <;> omega
theorem sS_inj : Function.Injective sS := fun t t' h => sSv_inj (by rw [← sS_val, ← sS_val, h])
theorem sR_inj : Function.Injective sR := fun t t' h => sRv_inj (by rw [← sR_val, ← sR_val, h])
theorem sS_ne_sR (t t' : T) : sS t ≠ sR t' := fun h => sSv_ne_sRv t t' (by rw [← sS_val, ← sR_val, h])

/-! ## Devices -/

/-- The device a copy goes to, and the one it comes from. -/
def dstOf (c : Dev nD) : T → Dev nD | .inl _ => rt c | .inr _ => lt c
def srcOf (c : Dev nD) : T → Dev nD | .inl _ => lt c | .inr _ => rt c

theorem rt_val (c : Dev nD) : (rt c).val = (c.val + 1) % 32 := k0_dev3_eq c
theorem lt_val (c : Dev nD) : (lt c).val = (c.val + 31) % 32 := k0_dev4_eq c
theorem dev_lt (c : Dev nD) : c.val < 32 := c.isLt
theorem rt_lt (c : Dev nD) : rt (lt c) = c := Fin.ext (by rw [rt_val, lt_val]; have := dev_lt c; omega)
theorem lt_rt (c : Dev nD) : lt (rt c) = c := Fin.ext (by rw [lt_val, rt_val]; have := dev_lt c; omega)
theorem dst_src (c : Dev nD) (t : T) : dstOf (srcOf c t) t = c := by cases t <;> [exact rt_lt c; exact lt_rt c]
theorem src_dst (c : Dev nD) (t : T) : srcOf (dstOf c t) t = c := by cases t <;> [exact lt_rt c; exact rt_lt c]

/-- Whose chunk a copy of device `c` sends: `h` places to the left of `c` on the way right, to the right on the way left. -/
def org (c : Dev nD) : T → Dev nD
  | .inl p => ⟨(c.val + 32 - p.2.val) % 32, Nat.mod_lt _ (by decide)⟩
  | .inr p => ⟨(c.val + p.2.val) % 32, Nat.mod_lt _ (by decide)⟩
/-- Whose chunk lands at device `c` by a copy. -/
def land (c : Dev nD) (t : T) : Dev nD := org (srcOf c t) t

theorem land_inl (c : Dev nD) (p) : (land c (.inl p)).val = (c.val + 31 - p.2.val) % 32 := by
  show ((lt c).val + 32 - p.2.val) % 32 = _
  rw [lt_val]; have := dev_lt c; omega
theorem land_inr (c : Dev nD) (p) : (land c (.inr p)).val = (c.val + 1 + p.2.val) % 32 := by
  show ((rt c).val + p.2.val) % 32 = _
  rw [rt_val]; have := dev_lt c; omega
theorem land_dst (c : Dev nD) (t : T) : land (dstOf c t) t = org c t := by rw [land, src_dst]

/-! ## Pieces -/

/-- Where a piece lies in the gathered buffer. -/
abbrev offs (o : Dev nD) (b : Fin 2) : Fin 3 → Nat := ![o.val, 64 * b.val, 0]
theorem offs_inb (o : Dev nD) (b : Fin 2) : ∀ a, offs o b a + S1x64x4096.size a ≤ S32x128x4096.size a := by
  intro a; have := dev_lt o; fin_cases a
  · show o.val + 1 ≤ 32; omega
  · show 64 * b.val + 64 ≤ 128; omega
  · show 0 + 4096 ≤ 4096; omega

/-- The gathered buffer. -/
abbrev xg : Memref sig .tc .vmem S32x128x4096 .fp8e4m3 := Memref.whole cc0_scratch0
/-- A piece of it. -/
abbrev pm (o : Dev nD) (b : Fin 2) : Memref sig .tc .vmem S64x4096 .fp8e4m3 := piece xg (offs o b) (offs_inb o b)
/-- The elements of a piece, and of a chunk. -/
abbrev pset (o : Dev nD) (b : Fin 2) : Finset S32x128x4096.Idx := (pm o b).view.set
abbrev cset (o : Dev nD) : Finset S32x128x4096.Idx := pset o 0 ∪ pset o 1

theorem mem_pset (o : Dev nD) (b : Fin 2) (i : S32x128x4096.Idx) :
    i ∈ pset o b ↔ (i 0).val = o.val ∧ (i 1).val / 64 = b.val := by
  have h : pset o b = (Rect.unit (s := S32x128x4096) (offs o b) S1x64x4096.size (offs_inb o b)).set :=
    (View.set_reshape _ _).trans (View.set_slice_whole cc0_scratch0 _)
  rw [h, Rect.mem_set_unit]
  have h2 : (i 2).val < 4096 := (i 2).isLt
  constructor
  · intro H
    have h0 : o.val ≤ (i 0).val ∧ (i 0).val < o.val + 1 := H 0
    have h1 : 64 * b.val ≤ (i 1).val ∧ (i 1).val < 64 * b.val + 64 := H 1
    omega
  · rintro ⟨h0, h1⟩ a
    fin_cases a
    · show o.val ≤ (i 0).val ∧ (i 0).val < o.val + 1; omega
    · show 64 * b.val ≤ (i 1).val ∧ (i 1).val < 64 * b.val + 64; omega
    · show 0 ≤ (i 2).val ∧ (i 2).val < 0 + 4096; omega

theorem mem_cset (o : Dev nD) (i : S32x128x4096.Idx) : i ∈ cset o ↔ (i 0).val = o.val := by
  have h1 : (i 1).val < 128 := (i 1).isLt
  rw [Finset.mem_union, mem_pset, mem_pset]
  show (i 0).val = o.val ∧ (i 1).val / 64 = 0 ∨ (i 0).val = o.val ∧ (i 1).val / 64 = 1 ↔ _
  omega

theorem pset_disj (o o' : Dev nD) (b b' : Fin 2) (h : (o, b) ≠ (o', b')) : Disjoint (pset o b) (pset o' b') := by
  refine Finset.disjoint_left.mpr fun i h1 h2 => h ?_
  rw [mem_pset] at h1 h2
  exact Prod.ext (Fin.ext (by show o.val = o'.val; omega)) (Fin.ext (by show b.val = b'.val; omega))
theorem halves_disj (o : Dev nD) : Disjoint (pset o 0) (pset o 1) := pset_disj o o 0 1 (by simp)

/-- The chunk as a rectangle of the buffer has the elements of its two pieces. -/
theorem chunk_set (o : Dev nD) (q : Fin 3 → Nat) (hq : ∀ a, q a + S1x128x4096.size a ≤ S32x128x4096.size a)
    (e : q = ![o.val, 0, 0]) : (Rect.unit (s := S32x128x4096) q S1x128x4096.size hq).set = cset o := by
  subst e
  ext i
  rw [mem_cset, Rect.mem_set_unit]
  have h1 : (i 1).val < 128 := (i 1).isLt
  have h2 : (i 2).val < 4096 := (i 2).isLt
  constructor
  · intro H
    have h0 : o.val ≤ (i 0).val ∧ (i 0).val < o.val + 1 := H 0
    omega
  · intro h0 a
    fin_cases a
    · show o.val ≤ (i 0).val ∧ (i 0).val < o.val + 1; omega
    · show 0 ≤ (i 1).val ∧ (i 1).val < 0 + 128; omega
    · show 0 ≤ (i 2).val ∧ (i 2).val < 0 + 4096; omega

/-! ## The pieces of one device -/

/-- A piece of the buffer of device `c`: one of its own, or the one a copy lands in. -/
def pieceOf (c : Dev nD) : Fin 2 ⊕ T → Dev nD × Fin 2
  | .inl b => (c, b)
  | .inr t => (land c t, halfOf t)

theorem pieceOf_inj (c : Dev nD) : Function.Injective (pieceOf c) := by
  have hc := dev_lt c
  rintro (b | ⟨b, h⟩ | ⟨b, h⟩) (b' | ⟨b', h'⟩ | ⟨b', h'⟩) e <;>
    have e1 := congrArg (fun p => (Prod.fst p).val) e <;> have e2 := congrArg Prod.snd e <;>
    simp only [pieceOf, land_inl, land_inr, halfOf] at e1 e2 <;> subst e2
  · rfl
  · exfalso; omega
  · exfalso; omega
  · exfalso; omega
  · have : h = h' := Fin.ext (by omega)
    subst this; rfl
  · exfalso; omega
  · exfalso; omega
  · exfalso; omega
  · have : h = h' := Fin.ext (by omega)
    subst this; rfl

theorem pieceOf_bij (c : Dev nD) : Function.Bijective (pieceOf c) :=
  (Fintype.bijective_iff_injective_and_card _).mpr ⟨pieceOf_inj c, by
    simp only [Fintype.card_sum, Fintype.card_prod, Fintype.card_fin]; rfl⟩

/-- The elements of a device's pieces. -/
def psetOf (c : Dev nD) (x : Fin 2 ⊕ T) : Finset S32x128x4096.Idx := pset (pieceOf c x).1 (pieceOf c x).2

theorem psetOf_disj (c : Dev nD) (x y : Fin 2 ⊕ T) (h : x ≠ y) : Disjoint (psetOf c x) (psetOf c y) :=
  pset_disj _ _ _ _ fun e => h (pieceOf_inj c e)
theorem psetOf_cover (c : Dev nD) : Finset.univ.biUnion (psetOf c) = Finset.univ := by
  ext i
  simp only [Finset.mem_biUnion, Finset.mem_univ, true_and, iff_true]
  have h1 : (i 1).val < 128 := (i 1).isLt
  obtain ⟨x, hx⟩ := (pieceOf_bij c).2 (⟨(i 0).val, (i 0).isLt⟩, ⟨(i 1).val / 64, by omega⟩)
  refine ⟨x, ?_⟩
  rw [psetOf, hx, mem_pset]
  exact ⟨rfl, rfl⟩

end Cert.KernelIdeal.Ring
-- ==== Proof.Protocol.lean ====
/- The protocol of the ring: what each semaphore counts, who pays it, and what each landing hands over; what a device
   owes at the start, and the levels that order the waits. -/
module

public import proofs.«01_k».proof.Proof.Pieces
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ValueIdxCore

@[expose] public section

noncomputable section

namespace Cert.KernelIdeal.Ring

open Cert.KernelIdeal.Gen Cert.KernelIdeal.Plan
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Pipeline (Dat Cfg Window BodyObligation cellOf)

variable {F : FTy → Type} [FloatOps F]

/-- The launch's own accounts, and beside them the ring's, two duties to a round at most. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter at zero. -/
def s₀ : MemSt nD τ sig (Elt F) := ⟨m, fun _ => 0, ρ⟩

/-! ## The semaphores -/

/-- The barrier's semaphore. -/
abbrev barS : Sem sig := (SemArray.scalar (sig.barrier 0 rfl) : Sems sig S_).sem

abbrev barCell (c : Dev nD) : GSem nD τ sig := ((c : Thread nD τ), .reg barS)
abbrev sndCell (c : Dev nD) (t : T) : GSem nD τ sig := ((c : Thread nD τ), .dma (sS t))
abbrev rcvCell (c : Dev nD) (t : T) : GSem nD τ sig := ((c : Thread nD τ), .dma (sR t))

/-- The semaphores of the copies: of the sender, and of the receiver. -/
def sOf : T ⊕ T → DmaSem sig | .inl t => sS t | .inr t => sR t
theorem sOf_inj : Function.Injective sOf := by
  rintro (t | t) (t' | t') h
  · exact congrArg _ (sS_inj h)
  · exact absurd h (sS_ne_sR t t')
  · exact absurd h.symm (sS_ne_sR t' t)
  · exact congrArg _ (sR_inj h)

open Classical in
/-- Which copy a semaphore counts. -/
def dec (sm : SemLoc sig) : Option (T ⊕ T) :=
  if h : ∃ x, sm = .dma (sOf x) then some (Classical.choose h) else none
theorem dec_sOf (x : T ⊕ T) : dec (.dma (sOf x)) = some x := by
  have h : ∃ y, (SemLoc.dma (sOf x) : SemLoc sig) = .dma (sOf y) := ⟨x, rfl⟩
  rw [dec, dif_pos h]
  have := Classical.choose_spec h
  rw [SemLoc.dma.injEq] at this
  rw [← sOf_inj this]
theorem dec_none {q : DmaSem sig} (h : q.val < 5) : dec (.dma q) = none := by
  rw [dec, dif_neg]
  rintro ⟨x | x, e⟩ <;> rw [SemLoc.dma.injEq] at e
  · have := sSv_ge x; rw [← sS_val] at this; rw [e] at h; change (sS x).val < 5 at h; omega
  · have := sRv_ge x; rw [← sR_val] at this; rw [e] at h; change (sR x).val < 5 at h; omega
theorem dec_snd (t : T) : dec (.dma (sS t)) = some (.inl t) := dec_sOf (.inl t)
theorem dec_rcv (t : T) : dec (.dma (sR t)) = some (.inr t) := dec_sOf (.inr t)

theorem dma_ne_bar (q : DmaSem sig) : (SemLoc.dma q : SemLoc sig) ≠ .reg barS := fun h => by cases h

/-- The bytes of one piece, as a wait counts them. -/
abbrev N : ℕ := (pm 0 0).view.dmaCredit
theorem N_pos : 0 < N := View.dmaCredit_pos _ (by decide)

/-! ## Contents -/

/-- What a device's core holds of the four operands. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
def astg (c : Dev nD) : (cc0_stg2_0 : Ref sig .tc).ty.Contents (Elt F) :=
  (win0_2.blk (0 : Fin 1)).view.read (Elt F) ((s₀ m ρ).mem ((c : Thread nD τ).loc main_arg2))
def bstg (c : Dev nD) : (cc0_stg3_0 : Ref sig .tc).ty.Contents (Elt F) :=
  (win0_3.blk (0 : Fin 1)).view.read (Elt F) ((s₀ m ρ).mem ((c : Thread nD τ).loc main_arg3))

/-- The product of the two scales. -/
def alpha (c : Dev nD) : F .f32 := k0_pay2 (astg m ρ c (ix1 0)) (bstg m ρ c (ix1 0))
/-- The chunk of device `o`. -/
def chunk (o : Dev nD) : Vec F S1x128x4096 .fp8e4m3 := k0_pay3 (xstg m ρ o)
/-- The gathered activations: the same on every device. -/
def gath : (cc0_scratch0 : Ref sig .tc).ty.Contents (Elt F) :=
  fun i : S32x128x4096.Idx => chunk m ρ ⟨(i 0).val, (i 0).isLt⟩ (ix3 (0 : Fin 1) (i 1) (i 2))
/-- The weights as the product takes them. -/
def wb (c : Dev nD) : Vec F S4096x256 .bf16 := k0_pay4 (wstg m ρ c)
/-- The block of the result that the chunk of `o` gives. -/
def blockAt (c o : Dev nD) : FVec F S128x256 .f32 := k0_pay5 (alpha m ρ c) (chunk m ρ o) (wb m ρ c)
/-- The result on device `c`. -/
def outAt (c : Dev nD) : (cc0_stg4_0 : Ref sig .tc).ty.Contents (Elt F) :=
  fun i : S4096x256.Idx => blockAt m ρ c ⟨(i 0).val / 128, by have : (i 0).val < 4096 := (i 0).isLt; show _ < 32; omega⟩
    (ix2 (⟨(i 0).val % 128, Nat.mod_lt _ (by decide)⟩ : Fin 128) (i 1))

/-! ## What is held of the gathered buffer -/

/-- Piece `(o, b)` of the gathered buffer of device `c`, a share `q` of it, at contents `f`. -/
def pPts (c o : Dev nD) (b : Fin 2) (q : PosShare TreeShare) (f : (cc0_scratch0 : Ref sig .tc).ty.Contents (Elt F)) : sProp 𝕄 :=
  (pm o b).view.loc (c : Thread nD τ) ↦[(pm o b).view.set]{q} f
/-- The same holding the gathered activations. -/
abbrev gPts (c o : Dev nD) (b : Fin 2) (q : PosShare TreeShare) : sProp 𝕄 := pPts c o b q (gath m ρ)

/-- Which share of its source a copy reads: half; of a device's own chunk, read by both directions, the left half to
    the right and a quarter to the left. -/
def shareOf : T → PosShare TreeShare
  | .inl _ => fullShare.left
  | .inr p => if p.2.val = 0 then fullShare.right.left else fullShare.left

/-- The place at a neighbour where a copy of device `c` will land. -/
def slot (c : Dev nD) (t : T) : sProp 𝕄 := iprop(∃ f, pPts (F := F) (dstOf c t) (org c t) (halfOf t) fullShare f)
/-- What a copy gives back to its sender, and what it hands its receiver. -/
def sndPay (c : Dev nD) (t : T) : sProp 𝕄 := gPts m ρ c (org c t) (halfOf t) (shareOf t)
def rcvPay (c : Dev nD) (t : T) : sProp 𝕄 := gPts m ρ c (land c t) (halfOf t) fullShare
/-- What a neighbour's arrival at the barrier hands over: the places on it that copies will land in. -/
def barPay (c : Dev nD) (d : Bool) : sProp 𝕄 :=
  if d then bigSep Finset.univ fun p : Fin 2 × Fin 16 => slot (F := F) c (.inl p)
  else bigSep Finset.univ fun p : Fin 2 × Fin 15 => slot (F := F) c (.inr p)

omit [FloatOps F] in
instance pPts_storable (c o : Dev nD) (b q) (f) : BI.Storable (upEmb : UEmb _ 𝕄) (pPts (F := F) c o b q f) := by unfold pPts; infer_instance
omit [FloatOps F] in
instance slot_storable (c : Dev nD) (t) : BI.Storable (upEmb : UEmb _ 𝕄) (slot (F := F) c t) := by unfold slot; infer_instance
instance sndPay_storable (c : Dev nD) (t) : BI.Storable (upEmb : UEmb _ 𝕄) (sndPay (F := F) m ρ c t) := by unfold sndPay; infer_instance
instance rcvPay_storable (c : Dev nD) (t) : BI.Storable (upEmb : UEmb _ 𝕄) (rcvPay (F := F) m ρ c t) := by unfold rcvPay; infer_instance
omit [FloatOps F] in
instance barPay_storable (c : Dev nD) (d) : BI.Storable (upEmb : UEmb _ 𝕄) (barPay (F := F) c d) := by
  unfold barPay; split <;> infer_instance

/-- What a landing on a copy's semaphore hands over. -/
def payOf (c : Dev nD) : Option (T ⊕ T) → sProp 𝕄
  | some (.inl t) => sndPay m ρ c t
  | some (.inr t) => rcvPay m ρ c t
  | none => iprop(emp)
instance payOf_storable (c : Dev nD) (x) : BI.Storable (upEmb : UEmb _ 𝕄) (payOf (F := F) m ρ c x) := by
  unfold payOf; split <;> infer_instance

/-! ## The schedule -/

/-- One round: the barrier's semaphore is paid one unit by each neighbour, a copy's semaphores the bytes of a piece. -/
def ringRd : Rounds.Schedule (GSem nD τ sig) Bool 𝕄 where
  duties g r := if r = 0 ∧ g.1.2 = .tc then
      (if g.2 = .reg barS then Finset.univ else if (dec g.2).isSome then {false} else ∅) else ∅
  unitless _ := False
  amount g _ _ := if g.2 = .reg barS then 1 else N
  payload g _ d := if g.2 = .reg barS then barPay g.1.1 d else payOf m ρ g.1.1 (dec g.2)
  amount_pos g _ _ _ := by
    by_cases h : g.2 = .reg barS
    · rw [if_pos h]; exact Nat.one_pos
    · rw [if_neg h]; exact N_pos

instance ringRd_payload_storable (g : GSem nD τ sig) (r : ℕ) (d : Bool) :
    BI.Storable (upEmb : UEmb _ 𝕄) ((ringRd (F := F) m ρ).payload g r d) := by
  show BI.Storable upEmb (if g.2 = .reg barS then barPay g.1.1 d else payOf m ρ g.1.1 (dec g.2))
  split <;> infer_instance

section Sched
variable (c : Dev nD) (t : T)

theorem duties_bar : (ringRd (F := F) m ρ).duties (barCell c) 0 = Finset.univ := by
  dsimp only [ringRd]; rw [if_pos ⟨rfl, rfl⟩]; exact if_pos rfl
theorem duties_snd : (ringRd (F := F) m ρ).duties (sndCell c t) 0 = {false} := by
  dsimp only [ringRd]; rw [if_pos ⟨rfl, rfl⟩, if_neg (dma_ne_bar _), dec_snd]; rfl
theorem duties_rcv : (ringRd (F := F) m ρ).duties (rcvCell c t) 0 = {false} := by
  dsimp only [ringRd]; rw [if_pos ⟨rfl, rfl⟩, if_neg (dma_ne_bar _), dec_rcv]; rfl
theorem duties_later (g : GSem nD τ sig) : ∀ r, 1 ≤ r → (ringRd (F := F) m ρ).duties g r = ∅ :=
  fun r hr => by dsimp only [ringRd]; rw [if_neg fun h => by omega]

theorem amount_bar (d : Bool) : (ringRd (F := F) m ρ).amount (barCell c) 0 d = 1 := by dsimp only [ringRd]; exact if_pos rfl
theorem amount_dma (q : DmaSem sig) (d : Bool) : (ringRd (F := F) m ρ).amount ((c : Thread nD τ), .dma q) 0 d = N := by
  dsimp only [ringRd]; exact if_neg (dma_ne_bar _)

theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_snd : (ringRd (F := F) m ρ).expect (sndCell c t) 0 = N := by
  unfold Schedule.expect Schedule.amountOf; rw [duties_snd, Finset.sum_singleton, amount_dma]
theorem expect_rcv : (ringRd (F := F) m ρ).expect (rcvCell c t) 0 = N := by
  unfold Schedule.expect Schedule.amountOf; rw [duties_rcv, Finset.sum_singleton, amount_dma]

theorem payload_bar (d : Bool) : (ringRd (F := F) m ρ).payload (barCell c) 0 d = barPay c d := by dsimp only [ringRd]; rw [if_pos rfl]
theorem payload_snd (d : Bool) : (ringRd (F := F) m ρ).payload (sndCell c t) 0 d = sndPay m ρ c t := by
  dsimp only [ringRd]; rw [if_neg (dma_ne_bar _), dec_snd]; rfl
theorem payload_rcv (d : Bool) : (ringRd (F := F) m ρ).payload (rcvCell c t) 0 d = rcvPay m ρ c t := by
  dsimp only [ringRd]; rw [if_neg (dma_ne_bar _), dec_rcv]; rfl

theorem rest_bar : bigSep ((ringRd (F := F) m ρ).duties (barCell c) 0 \ ∅) (fun d => (ringRd (F := F) m ρ).payload (barCell c) 0 d)
    = iprop(barPay (F := F) c false ∗ barPay (F := F) c true) := by
  rw [Finset.sdiff_empty, duties_bar, bigSep_univ_eq_bigSepL [false, true] (by decide) (by decide), bigSepL_cons_cons, bigSepL_singleton,
    payload_bar, payload_bar]
  rfl
theorem rest_snd : bigSep ((ringRd (F := F) m ρ).duties (sndCell c t) 0 \ ∅) (fun d => (ringRd (F := F) m ρ).payload (sndCell c t) 0 d) = sndPay m ρ c t := by
  rw [Finset.sdiff_empty, duties_snd, bigSep_singleton, payload_snd]
theorem rest_rcv : bigSep ((ringRd (F := F) m ρ).duties (rcvCell c t) 0 \ ∅) (fun d => (ringRd (F := F) m ρ).payload (rcvCell c t) 0 d) = rcvPay m ρ c t := by
  rw [Finset.sdiff_empty, duties_rcv, bigSep_singleton, payload_rcv]

end Sched

/-! ## What a device owes, and the levels -/

/-- What device `c` owes while the copies `S` are still to be started. -/
def Oof (c : Dev nD) (S : Finset T) : CellTallies nD τ sig Unit := ∑ t ∈ S, tallyAt (rcvCell (dstOf c t) t) () N
/-- At the start: every copy, and a unit to each neighbour's barrier. -/
def O₁ (c : Dev nD) : CellTallies nD τ sig Unit := Oof c Finset.univ + tallyAt (barCell (rt c)) () 1
def O₀ (c : Dev nD) : CellTallies nD τ sig Unit := O₁ c + tallyAt (barCell (lt c)) () 1

theorem Oof_erase (c : Dev nD) {S : Finset T} {t : T} (h : t ∈ S) :
    Oof c S = Oof c (S.erase t) + tallyAt (rcvCell (dstOf c t) t) () N :=
  (Finset.sum_erase_add S _ h).symm
theorem Oof_empty (c : Dev nD) : Oof c ∅ = 0 := Finset.sum_empty

theorem Oof_apply (c : Dev nD) (S : Finset T) (g : GSem nD τ sig) (u : Unit) :
    Oof c S g u = ∑ t ∈ S, (tallyAt (rcvCell (dstOf c t) t) () N : CellTallies nD τ sig Unit) g u := by
  unfold Oof; rw [Finset.sum_apply, Finsupp.finset_sum_apply]

theorem Oof_pos {c : Dev nD} {S : Finset T} {g : GSem nD τ sig} {u : Unit} (h : 0 < Oof c S g u) :
    ∃ t ∈ S, g = rcvCell (dstOf c t) t := by
  rw [Oof_apply] at h
  obtain ⟨t, ht, hne⟩ := Finset.exists_ne_zero_of_sum_ne_zero (Nat.pos_iff_ne_zero.mp h)
  refine ⟨t, ht, ?_⟩
  by_contra hg
  exact hne (by rw [tallyAt_apply, if_neg fun h' => hg h'.1])

/-- The levels: the barrier below the landings, and these by their step; all else at the bottom. -/
def L (g : GSem nD τ sig) : Finset Unit := if g.1.2 = .tc then {()} else ∅
def lvS (sm : SemLoc sig) : ℕ := if sm = .reg barS then 1 else match dec sm with | some (.inr t) => 2 + hopOf t | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lvS_bar : lvS (.reg barS) = 1 := if_pos rfl
theorem lvS_rcv (t : T) : lvS (.dma (sR t)) = 2 + hopOf t := by rw [lvS, if_neg (dma_ne_bar _), dec_rcv]
theorem lvS_snd (t : T) : lvS (.dma (sS t)) = 0 := by rw [lvS, if_neg (dma_ne_bar _), dec_snd]
theorem lvS_stage {q : DmaSem sig} (h : q.val < 5) : lvS (.dma q) = 0 := by rw [lvS, if_neg (dma_ne_bar _), dec_none h]

omit [FloatOps F] in
/-- A device may wait on a semaphore below every landing it still owes. -/
theorem mayWait (c : Dev nD) (sm : SemLoc sig) (S : Finset T) (h : ∀ t ∈ S, lvS sm < 2 + hopOf t) :
    (levAts L lv : sProp 𝕄) ⊢ MayWait (c : Thread nD τ) sm () (Oof c S) :=
  MayOwe.of_cut (L := L) (lev := lv) (lvS sm) (fun p hp => by rw [Finset.mem_singleton.mp hp, L_tc]; exact Finset.mem_singleton_self _)
    (fun g u hg => by obtain ⟨t, ht, rfl⟩ := Oof_pos hg; exact Finset.mem_singleton_self _)
    (fun p hp => by rw [Finset.mem_singleton.mp hp]; exact le_refl _)
    (fun g u hg => by obtain ⟨t, ht, rfl⟩ := Oof_pos hg; show lvS sm < lvS _; rw [lvS_rcv]; exact h t ht)

theorem O₀_pos {c : Dev nD} {g : GSem nD τ sig} {u : Unit} (h : 0 < O₀ c g u) :
    (∃ t, g = rcvCell (dstOf c t) t) ∨ g = barCell (rt c) ∨ g = barCell (lt c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  obtain ⟨t, -, e⟩ := Oof_pos (c := c) (S := Finset.univ) (g := g) (u := u) (by omega)
  exact hn.1 ⟨t, e⟩

omit [FloatOps F] in
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | rfl | rfl <;> exact Finset.mem_singleton_self _)
      (fun p hp => by rw [Finset.mem_singleton.mp hp]; show lvS _ ≤ 0; rw [lvS_stage hq])
      (fun g u hg => by
        rcases O₀_pos hg with ⟨t, rfl⟩ | rfl | rfl
        · show 0 < lvS _; rw [lvS_rcv]; omega
        · show 0 < lvS _; rw [lvS_bar]; decide
        · show 0 < lvS _; rw [lvS_bar]; decide)
  · rw [MayWait_zero]; iintro -; iempintro

end Cert.KernelIdeal.Ring
-- ==== Proof.Steps.lean ====
/- The steps of the ring on one device: starting a copy, waiting for the neighbour's and for one's own, each once for
   every copy. -/
module

public import proofs.«01_k».proof.Proof.Protocol

@[expose] public section

noncomputable section

namespace Cert.KernelIdeal.Ring

open Cert.KernelIdeal.Gen Cert.KernelIdeal.Plan
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

abbrev 𝒱₀ : Variants := Variants.none

/-! ## The records -/

/-- The semaphores of the ring on one device: the barrier's and the copies'. -/
abbrev KC : Type := Option (T ⊕ T)
instance kcDec : DecidableEq KC := inferInstance
instance devKcDec : DecidableEq (Dev nD × KC) := @instDecidableEqProd _ _ inferInstance kcDec
def kcell (ck : Dev nD × KC) : GSem nD τ sig :=
  ((ck.1 : Thread nD τ), match ck.2 with | none => .reg barS | some x => .dma (sOf x))

/-- Every semaphore of the ring follows the protocol, and its round is open: known to every device. -/
def records (K : Dev nD × KC → ℕ) : sProp 𝕄 :=
  iprop((bigSep Finset.univ fun ck : Dev nD × KC => cellInv ER (ringRd m ρ) (K ck) (kcell ck))
    ∗ bigSep Finset.univ fun ck : Dev nD × KC => reached ER (kcell ck) 0)

instance records_persistent (K : Dev nD × KC → ℕ) : BI.Persistent (records m ρ K) := by unfold records; infer_instance

theorem records_at (K : Dev nD × KC → ℕ) (ck : Dev nD × KC) :
    records m ρ K ⊢ iprop(cellInv ER (ringRd m ρ) (K ck) (kcell ck) ∗ reached ER (kcell ck) 0) := by
  unfold records
  exact BIClass.sep_mono (bigSep_elim (Finset.mem_univ ck)) (bigSep_elim (Finset.mem_univ ck))

variable (K : Dev nD × KC → ℕ)

/-- What a device still owes: the copies `S`. -/
def owesE (c : Dev nD) (S : Finset T) : sProp 𝕄 := iprop(∃ W, owes (c : Thread nD τ) (Oof c S) W)

/-! ## Contents of a piece copied -/

theorem landed_on (o : Dev nD) (b : Fin 2) (fd : (cc0_scratch0 : Ref sig .tc).ty.Contents (Elt F)) :
    ∀ i ∈ (pm o b).view.set, (pm o b).view.write (Elt F) fd ((pm o b).view.read (Elt F) (gath m ρ)) Finset.univ i = gath m ρ i := by
  intro i hi
  rw [View.write_read_eq_piecewise, Finset.piecewise_eq_of_mem _ _ _ (by rw [View.setOn_univ]; exact hi)]

theorem landed_pts (c o : Dev nD) (b : Fin 2) (fd : (cc0_scratch0 : Ref sig .tc).ty.Contents (Elt F)) :
    pPts (F := F) c o b fullShare ((pm o b).view.write (Elt F) fd ((pm o b).view.read (Elt F) (gath m ρ)) Finset.univ)
      = gPts m ρ c o b fullShare :=
  pointsTo_congr (landed_on m ρ o b fd)

/-! ## A copy is started -/

/-- What a device needs to start a copy, but for its source. -/
def sendTok (c : Dev nD) (t : T) : sProp 𝕄 :=
  iprop(dutyTok ER (sndCell c t) 0 false ∗ dutyTok ER (rcvCell (dstOf c t) t) 0 false ∗ slot (F := F) c t)

theorem start_step (c : Dev nD) (t : T) (hx : xg.IsWhole)
    (o : Fin 3 → Nat) (ho : ∀ a, o a + S1x64x4096.size a ≤ S32x128x4096.size a)
    (hw : (Rect.unit (s := S32x128x4096) o S1x64x4096.size ho).WholeWords (EltTy.packing .fp8e4m3))
    (dst : Dev nD) (eo : o = offs (org c t) (halfOf t)) (ed : dst = dstOf c t) (S : Finset T) (hS : t ∈ S) (Φ : PUnit → sProp 𝕄) :
    iprop(records m ρ K ∗ sndPay m ρ c t ∗ sendTok (F := F) c t ∗ owesE (F := F) c S
        ∗ ((cred (tallyAt (sndCell c t) () N) ∗ owesE (F := F) c (S.erase t)) -∗ Φ ⟨⟩))
      ⊢ wp frame (wpE (defs₀ (F := F)) 𝒱₀ (c : Thread nD τ) none) Set.univ (startC (F := F) xg hx o ho hw (sS t) (sR t) dst) Φ := by
  subst eo ed
  unfold startC sendTok slot owesE sndPay gPts pPts
  simp only [Prog.lift]
  iintro ⟨#HR, Hs, ⟨Ht1, Ht2, ⟨%fd, Hd⟩⟩, ⟨%W, HO⟩, Hk⟩
  ihave H1 := (records_at m ρ K (c, some (.inl t))) $$ HR
  icases H1 with ⟨#HI1, #HR1⟩
  ihave H2 := (records_at m ρ K (dstOf c t, some (.inr t))) $$ HR
  icases H2 with ⟨#HI2, #HR2⟩
  iapply (Rounds.wp_send_pointsTo 𝒱₀ ER (ringRd m ρ) (c : Thread nD τ) none (c' := (dstOf c t : Thread nD τ))
    (src := pm (org c t) (halfOf t)) (dst := pm (org c t) (halfOf t)) (sS := .dma (sS t)) (sem := .dma (sR t))
    (q := shareOf t) (fs := gath m ρ) (κ₁ := K (c, some (.inl t))) (κ₂ := K (dstOf c t, some (.inr t)))
    (r₁ := 0) (r₂ := 0) (d₁ := false) (d₂ := false) (fd := fd)
    (by rw [duties_snd]; exact Finset.mem_singleton_self _) (by rw [duties_rcv]; exact Finset.mem_singleton_self _)
    () () N rfl (amount_dma m ρ c (sS t) false) (amount_dma m ρ (dstOf c t) (sR t) false) (Oof c (S.erase t)) (Oof_erase c hS) (W := W)
    (by rw [payload_snd]; exact BI.Entails.refl _)
    (by rw [payload_rcv]; unfold rcvPay; rw [land_dst]; exact Entails.of_eq (landed_pts m ρ (dstOf c t) (org c t) (halfOf t) fd)))
    $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  rw [wp_ret]; imodintro
  iapply Hk
  isplitl [Hc]; · iexact Hc
  iexists W; iexact HO

/-! ## The waits -/

/-- A copy in flight, as its sender and receiver holds it: where the two semaphores stand, and what each is to bring. -/
def fly (c : Dev nD) (t : T) : sProp 𝕄 :=
  iprop(atPos ER (sndCell c t) 0 ∅ 0 ∗ atPos ER (rcvCell c t) 0 ∅ 0
    ∗ cred (tallyAt (sndCell c t) () N) ∗ cred (tallyAt (rcvCell c t) () N))
/-- The two semaphores of a copy after it: back at zero. -/
def shut (c : Dev nD) (t : T) : sProp 𝕄 := iprop(semVal (sndCell c t) 0 ∗ semVal (rcvCell c t) 0)

theorem wait_step (c : Dev nD) (t : T) (hx : xg.IsWhole)
    (o : Fin 3 → Nat) (ho : ∀ a, o a + S1x64x4096.size a ≤ S32x128x4096.size a)
    (hw : (Rect.unit (s := S32x128x4096) o S1x64x4096.size ho).WholeWords (EltTy.packing .fp8e4m3))
    (S : Finset T) (hS : ∀ t' ∈ S, hopOf t < hopOf t') (Φ : PUnit → sProp 𝕄) :
    iprop(records m ρ K ∗ levAts L lv ∗ fly (F := F) c t ∗ owesE (F := F) c S
        ∗ ((rcvPay m ρ c t ∗ sndPay m ρ c t ∗ shut (F := F) c t ∗ owesE (F := F) c S) -∗ Φ ⟨⟩))
      ⊢ wp frame (wpE (defs₀ (F := F)) 𝒱₀ (c : Thread nD τ) none) Set.univ
          (waitC (F := F) xg hx o ho hw (sR t) >>= fun _ => waitC (F := F) xg hx o ho hw (sS t)) Φ := by
  unfold waitC fly shut owesE
  simp only [Prog.lift, Prog.bind_op, Prog.bind_ret]
  iintro ⟨#HR, #Hlev, ⟨HaS, HaR, HcS, HcR⟩, ⟨%W, HO⟩, Hk⟩
  ihave H1 := (records_at m ρ K (c, some (.inl t))) $$ HR
  icases H1 with ⟨#HI1, #HR1⟩
  ihave H2 := (records_at m ρ K (c, some (.inr t))) $$ HR
  icases H2 with ⟨#HI2, #HR2⟩
  iapply (Rounds.wp_wait_rest_token 𝒱₀ ER (ringRd m ρ) (c : Thread nD τ) none (κ := K (c, some (.inr t)))
      (wpE_waitDma2_eq 𝒱₀ (c : Thread nD τ) none Set.univ (src := piece xg o ho) (dst := piece xg o ho)
        (hsrc := (hx.wordExact_slice rfl _ hw).reshape _ _) (hdst := (hx.wordExact_slice rfl _ hw).reshape _ _)) (Set.mem_univ _) () (sm := .dma (sR t)) (k' := N) (O := Oof c S) (W := W) (R := 0) (m := 0) (T := ∅)
      (by rw [Nat.zero_add, expect_rcv])) $$ [HcR HO HaR]
  · isplitr; · iexact HI2
    isplitl [HcR]; · iexact HcR
    isplitl [HO]; · iexact HO
    isplitr; · iapply (mayWait c (.dma (sR t)) S (fun t' ht' => by rw [lvS_rcv]; have := hS t' ht'; omega)); iexact Hlev
    iexact HaR
  iintro ⟨HO, HaR, -, Hpay⟩
  ihave HpR := (Entails.of_eq (rest_rcv m ρ c t)) $$ Hpay
  iapply (Rounds.wp_wait_rest_token 𝒱₀ ER (ringRd m ρ) (c : Thread nD τ) none (κ := K (c, some (.inl t)))
      (wpE_waitDma2_eq 𝒱₀ (c : Thread nD τ) none Set.univ (src := piece xg o ho) (dst := piece xg o ho)
        (hsrc := (hx.wordExact_slice rfl _ hw).reshape _ _) (hdst := (hx.wordExact_slice rfl _ hw).reshape _ _)) (Set.mem_univ _) () (sm := .dma (sS t)) (k' := N) (O := Oof c S)
      (W := insert (SemLoc.dma (sR t), ()) W) (R := 0) (m := 0) (T := ∅)
      (by rw [Nat.zero_add, expect_snd])) $$ [HcS HO HaS]
  · isplitr; · iexact HI1
    isplitl [HcS]; · iexact HcS
    isplitl [HO]; · iexact HO
    isplitr; · iapply (mayWait c (.dma (sS t)) S (fun t' ht' => by rw [lvS_snd]; omega)); iexact Hlev
    iexact HaS
  iintro ⟨HO, HaS, -, Hpay⟩
  ihave HpS := (Entails.of_eq (rest_snd m ρ c t)) $$ Hpay
  rw [wp_ret]
  imod (Rounds.cell_close ER (ringRd m ρ) (Set.mem_univ (K (c, some (.inl t)))) (fun h => h) (R := 0 + 1) (duties_later m ρ (sndCell c t))) $$ [HaS] with HzS
  · isplitr; · iexact HI1
    iexact HaS
  imod (Rounds.cell_close ER (ringRd m ρ) (Set.mem_univ (K (c, some (.inr t)))) (fun h => h) (R := 0 + 1) (duties_later m ρ (rcvCell c t))) $$ [HaR] with HzR
  · isplitr; · iexact HI2
    iexact HaR
  imodintro
  iapply Hk
  isplitl [HpR]; · iexact HpR
  isplitl [HpS]; · iexact HpS
  isplitl [HzS HzR]
  · isplitl [HzS] <;> iassumption
  iexists _; iexact HO

end Cert.KernelIdeal.Ring
-- ==== Proof.Gemm.lean ====
/- One product of a gathered chunk with the weights, and what the output holds after some of them. -/
module

public import proofs.«01_k».proof.Proof.Steps

@[expose] public section

noncomputable section

namespace Cert.KernelIdeal.Ring

open Cert.KernelIdeal.Gen Cert.KernelIdeal.Plan
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- The output's buffer and the one of the converted weights. -/
abbrev oM : Memref sig .tc .vmem S4096x256 .f32 := Memref.whole cc0_stg4_0
abbrev wM : Memref sig .tc .vmem S4096x256 .bf16 := Memref.whole cc0_scratch1

/-- Row `a` of the gathered buffer's chunk `o`, read as a chunk, is the chunk. -/
theorem chunk_read (o : Dev nD) (q : Fin 3 → Nat) (hq : ∀ a, q a + S1x128x4096.size a ≤ S32x128x4096.size a)
    (e : q = ![o.val, 0, 0]) :
    (xg.access (Rect.unit (s := S32x128x4096) q S1x128x4096.size hq)).read (Elt F) (gath m ρ) = chunk m ρ o := by
  subst e
  funext (j : S1x128x4096.Idx)
  have hj0 : (j 0).val < 1 := (j 0).isLt
  rw [View.read_apply]
  have e (a : Fin 3) := Idealize.ShloMosaic.ValueKit.view_emb_slice_whole_unit_val (cc0_scratch0 : Ref sig .tc) ![o.val, 0, 0] S1x128x4096.size hq j a
  show chunk m ρ ⟨_, _⟩ (ix3 _ _ _) = _
  congr 1
  · exact Fin.ext ((e 0).trans (by show o.val + (j 0).val = _; omega))
  · funext a
    fin_cases a
    · exact Fin.ext (by show 0 = (j 0).val; omega)
    · exact Fin.ext ((e 1).trans (Nat.zero_add _))
    · exact Fin.ext ((e 2).trans (Nat.zero_add _))

theorem chunk_acc_set (o : Dev nD) (q : Fin 3 → Nat) (hq : ∀ a, q a + S1x128x4096.size a ≤ S32x128x4096.size a)
    (e : q = ![o.val, 0, 0]) : (xg.access (Rect.unit (s := S32x128x4096) q S1x128x4096.size hq)).set = cset o :=
  (View.set_slice_whole cc0_scratch0 _).trans (chunk_set o q hq e)

/-- A chunk written where it belongs gives the gathered contents there. -/
theorem chunk_write (o : Dev nD) (q : Fin 3 → Nat) (hq : ∀ a, q a + S1x128x4096.size a ≤ S32x128x4096.size a)
    (e : q = ![o.val, 0, 0]) (f : (cc0_scratch0 : Ref sig .tc).ty.Contents (Elt F)) :
    ∀ i ∈ cset o, (xg.access (Rect.unit (s := S32x128x4096) q S1x128x4096.size hq)).write (Elt F) f (chunk m ρ o) Finset.univ i = gath m ρ i := by
  intro i hi
  rw [← chunk_read m ρ o q hq e, View.write_read_eq_piecewise,
    Finset.piecewise_eq_of_mem _ _ _ (by rw [View.setOn_univ, chunk_acc_set o q hq e]; exact hi)]

/-! ## The output by blocks of rows -/

theorem row_mem (o : Dev nD) (q : Fin 2 → Nat) (hq : ∀ a, q a + S128x256.size a ≤ S4096x256.size a)
    (e : q = ![128 * o.val, 0]) (i : S4096x256.Idx) :
    i ∈ (oM.access (Rect.unit (s := S4096x256) q S128x256.size hq)).set ↔ (i 0).val / 128 = o.val := by
  subst e
  rw [show (oM.access (Rect.unit (s := S4096x256) ![128 * o.val, 0] S128x256.size hq)).set
    = (Rect.unit (s := S4096x256) ![128 * o.val, 0] S128x256.size hq).set from View.set_slice_whole cc0_stg4_0 _, Rect.mem_set_unit]
  have h1 : (i 1).val < 256 := (i 1).isLt
  constructor
  · intro H
    have h0 : 128 * o.val ≤ (i 0).val ∧ (i 0).val < 128 * o.val + 128 := H 0
    omega
  · intro h0 a
    fin_cases a
    · show 128 * o.val ≤ (i 0).val ∧ (i 0).val < 128 * o.val + 128; omega
    · show 0 ≤ (i 1).val ∧ (i 1).val < 0 + 256; omega

theorem block_read (c o : Dev nD) (q : Fin 2 → Nat) (hq : ∀ a, q a + S128x256.size a ≤ S4096x256.size a)
    (e : q = ![128 * o.val, 0]) :
    (oM.access (Rect.unit (s := S4096x256) q S128x256.size hq)).read (Elt F) (outAt m ρ c) = blockAt m ρ c o := by
  subst e
  funext (j : S128x256.Idx)
  have hj0 : (j 0).val < 128 := (j 0).isLt
  rw [View.read_apply]
  have e (a : Fin 2) := Idealize.ShloMosaic.ValueKit.view_emb_slice_whole_unit_val (cc0_stg4_0 : Ref sig .tc) ![128 * o.val, 0] S128x256.size hq j a
  have e0 := e 0
  change _ = 128 * o.val + (j 0).val at e0
  show blockAt m ρ c ⟨_, _⟩ (ix2 _ _) = _
  congr 1
  · exact Fin.ext (by
      show (_ : ℕ) / 128 = o.val
      rw [e0]; omega)
  · funext a
    fin_cases a
    · exact Fin.ext (by
        show (_ : ℕ) % 128 = (j 0).val
        rw [e0]; omega)
    · exact Fin.ext ((e 1).trans (Nat.zero_add _))

/-- The output right on the rows of the chunks `D`. -/
def outSt (c : Dev nD) (D : Finset (Dev nD)) : sProp 𝕄 :=
  iprop(∃ f : (cc0_stg4_0 : Ref sig .tc).ty.Contents (Elt F),
    ⌜∀ i : S4096x256.Idx, ∀ o ∈ D, (i 0).val / 128 = o.val → f i = outAt m ρ c i⌝ ∗ oM.view.loc (c : Thread nD τ) ↦[Finset.univ]{fullShare} f)
/-- The converted weights. -/
def wSt (c : Dev nD) : sProp 𝕄 := wM.view.loc (c : Thread nD τ) ↦[Finset.univ]{fullShare} (wb m ρ c : (cc0_scratch1 : Ref sig .tc).ty.Contents (Elt F))

theorem outSt_all (c : Dev nD) :
    outSt m ρ c Finset.univ ⊢ (oM.view.loc (c : Thread nD τ) ↦[Finset.univ]{fullShare} outAt m ρ c : sProp 𝕄) := by
  unfold outSt
  iintro ⟨%f, %hf, H⟩
  rw [← show f = outAt m ρ c from funext fun i : S4096x256.Idx =>
    hf i ⟨(i 0).val / 128, by have : (i 0).val < 4096 := (i 0).isLt; show _ < 32; omega⟩ (Finset.mem_univ _) rfl]
  iexact H

/-- The weights' buffer read whole. -/
theorem w_read (c : Dev nD) :
    (wM.access (Rect.unit (s := S4096x256) ![0, 0] S4096x256.size inb_S4096x256_S4096x256_0_0)).read (Elt F)
      (wb m ρ c : (cc0_scratch1 : Ref sig .tc).ty.Contents (Elt F)) = wb m ρ c := by
  funext (j : S4096x256.Idx)
  rw [View.read_apply]
  have e (a : Fin 2) := Idealize.ShloMosaic.ValueKit.view_emb_slice_whole_unit_val (cc0_scratch1 : Ref sig .tc) ![0, 0] S4096x256.size inb_S4096x256_S4096x256_0_0 j a
  show wb m ρ c _ = _
  congr 1
  funext a
  fin_cases a
  · exact Fin.ext ((e 0).trans (Nat.zero_add _))
  · exact Fin.ext ((e 1).trans (Nat.zero_add _))

theorem gemm_step (c o : Dev nD) (q : PosShare TreeShare) (D : Finset (Dev nD))
    (p : Fin 3 → Nat) (hp : ∀ a, p a + S1x128x4096.size a ≤ S32x128x4096.size a) (ep : p = ![o.val, 0, 0])
    (r : Fin 2 → Nat) (hr : ∀ a, r a + S128x256.size a ≤ S4096x256.size a) (er : r = ![128 * o.val, 0]) (Φ : PUnit → sProp 𝕄) :
    iprop(gPts m ρ c o 0 q ∗ gPts m ρ c o 1 q ∗ wSt m ρ c ∗ outSt m ρ c D
        ∗ ((gPts m ρ c o 0 q ∗ gPts m ρ c o 1 q ∗ wSt m ρ c ∗ outSt m ρ c (insert o D)) -∗ Φ ⟨⟩))
      ⊢ wp frame (wpE (defs₀ (F := F)) 𝒱₀ (c : Thread nD τ) none) Set.univ (gemmC (F := F) xg oM wM (alpha m ρ c) p hp r hr) Φ := by
  unfold gemmC outSt wSt gPts pPts
  simp only [Prog.lift, Prog.bind_op, Prog.bind_ret]
  iintro ⟨H0, H1, Hw, ⟨%f, %hf, Ho⟩, Hk⟩
  ihave Hc := (pointsTo_union (halves_disj o) (ℓ := xg.view.loc (c : Thread nD τ)) (q := q) (f := gath m ρ)).2 $$ [H0 H1]
  · isplitl [H0] <;> iassumption
  iapply (wp_load_rect 𝒱₀ (c : Thread nD τ) none Set.univ (m := xg) (r := Rect.unit (s := S32x128x4096) p S1x128x4096.size hp) (S := cset o) (q := q) (f := gath m ρ)
    (by rw [chunk_acc_set o p hp ep])) $$ Hc
  iintro Hc
  rw [chunk_read m ρ o p hp ep]
  ihave Hc' := (pointsTo_union (halves_disj o) (ℓ := xg.view.loc (c : Thread nD τ)) (q := q) (f := gath m ρ)).1 $$ Hc
  icases Hc' with ⟨H0, H1⟩
  iapply (wp_load_rect 𝒱₀ (c : Thread nD τ) none Set.univ (m := wM)
    (r := Rect.unit (s := S4096x256) ![0, 0] S4096x256.size inb_S4096x256_S4096x256_0_0) (S := Finset.univ) (Finset.subset_univ _)) $$ Hw
  iintro Hw
  rw [w_read]
  iapply (wp_load_rect 𝒱₀ (c : Thread nD τ) none Set.univ (m := oM)
    (r := Rect.unit (s := S4096x256) r S128x256.size hr) (S := Finset.univ) (Finset.subset_univ _)) $$ Ho
  iintro Ho
  iapply (wp_store 𝒱₀ (c : Thread nD τ) none Set.univ (m := oM)
    (r := Rect.unit (s := S4096x256) r S128x256.size hr) (S := Finset.univ) (Finset.subset_univ _)) $$ Ho
  iintro Ho
  rw [wp_ret]; imodintro
  iapply Hk
  isplitl [H0]; · iexact H0
  isplitl [H1]; · iexact H1
  isplitl [Hw]; · iexact Hw
  iexists _
  isplitr
  swap; · iexact Ho
  ipureintro
  intro i o' ho' hi
  show (oM.access (Rect.unit (s := S4096x256) r S128x256.size hr)).write (Elt F) f (blockAt m ρ c o) Finset.univ i = _
  rw [← block_read m ρ c o r hr er, View.write_read_eq_piecewise, View.setOn_univ]
  by_cases h : i ∈ (oM.access (Rect.unit (s := S4096x256) r S128x256.size hr)).set
  · rw [Finset.piecewise_eq_of_mem _ _ _ h]
  · rw [Finset.piecewise_eq_of_notMem _ _ _ h]
    rcases Finset.mem_insert.mp ho' with e | e
    · exact absurd ((row_mem o r hr er i).mpr (e ▸ hi)) h
    · exact hf i o' e hi

end Cert.KernelIdeal.Ring
-- ==== Proof.Lanes.lean ====
/- Where the ring stands on one device: four lanes (to the right and to the left, by halves of a chunk), each a count of
   what has been started and waited for, and what one step of the body does to them. -/
module

public import proofs.«01_k».proof.Proof.Gemm

@[expose] public section

noncomputable section

namespace Cert.KernelIdeal.Ring

open Cert.KernelIdeal.Gen Cert.KernelIdeal.Plan
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- The lane of a copy: its direction and its half. -/
abbrev Lane : Type := Fin 2 ⊕ Fin 2
def laneOf : T → Lane | .inl p => .inl p.1 | .inr p => .inr p.1

theorem T_ext {t s : T} (hl : laneOf s = laneOf t) (hh : hopOf s = hopOf t) : s = t := by
  rcases t with ⟨b, h⟩ | ⟨b, h⟩ <;> rcases s with ⟨b', h'⟩ | ⟨b', h'⟩ <;> simp only [laneOf, hopOf, Sum.inl.injEq, Sum.inr.injEq, reduceCtorEq] at hl hh
  · have : h' = h := Fin.ext hh
    subst_vars; rfl
  · have : h' = h := Fin.ext hh
    subst_vars; rfl

/-- Before a copy starts: where its two semaphores stand, what its landing will bring, and what starting it takes. -/
def pend (c : Dev nD) (t : T) : sProp 𝕄 :=
  iprop(atPos ER (sndCell c t) 0 ∅ 0 ∗ atPos ER (rcvCell c t) 0 ∅ 0 ∗ cred (tallyAt (rcvCell c t) () N) ∗ sendTok (F := F) c t)
/-- After it: the share of the source that went out, half of what landed, and the semaphores at zero. -/
def done (c : Dev nD) (t : T) : sProp 𝕄 :=
  iprop(sndPay m ρ c t ∗ gPts m ρ c (land c t) (halfOf t) fullShare.right ∗ shut (F := F) c t)
/-- The state of a copy when `n` starts and waits of its lane are behind. -/
def st (c : Dev nD) (t : T) (n : ℕ) : sProp 𝕄 :=
  if n ≤ 2 * hopOf t then pend c t else if n = 2 * hopOf t + 1 then fly c t else done m ρ c t

theorem st_pend (c : Dev nD) (t : T) {n : ℕ} (h : n ≤ 2 * hopOf t) : st m ρ c t n = pend c t := if_pos h
theorem st_fly (c : Dev nD) (t : T) {n : ℕ} (h : n = 2 * hopOf t + 1) : st m ρ c t n = fly c t := by
  rw [st, if_neg (by omega), if_pos h]
theorem st_done (c : Dev nD) (t : T) {n : ℕ} (h : 2 * hopOf t + 2 ≤ n) : st m ρ c t n = done m ρ c t := by
  rw [st, if_neg (by omega), if_neg (by omega)]

/-- All copies of a device, by the counts `a` of its lanes. -/
def lanes (c : Dev nD) (a : Lane → ℕ) : sProp 𝕄 := bigSep Finset.univ fun t : T => st m ρ c t (a (laneOf t))
/-- The copies not yet started. -/
def todo (a : Lane → ℕ) : Finset T := Finset.univ.filter fun t => a (laneOf t) ≤ 2 * hopOf t
/-- … and what the device still owes. -/
def ringSt (c : Dev nD) (a : Lane → ℕ) : sProp 𝕄 := iprop(lanes m ρ c a ∗ owesE (F := F) c (todo a))

theorem mem_todo (a : Lane → ℕ) (t : T) : t ∈ todo a ↔ a (laneOf t) ≤ 2 * hopOf t := by
  rw [todo, Finset.mem_filter]; exact ⟨And.right, fun h => ⟨Finset.mem_univ _, h⟩⟩

/-- One copy taken out, to be put back with the count of its lane raised by one. -/
theorem lanes_take (c : Dev nD) (a : Lane → ℕ) (t : T) (n : ℕ) (ha : a (laneOf t) = n)
    (hn : n = 2 * hopOf t ∨ n = 2 * hopOf t + 1) :
    lanes m ρ c a ⊢ iprop(st m ρ c t n ∗ (st m ρ c t (n + 1) -∗ lanes m ρ c (Function.update a (laneOf t) (n + 1)))) := by
  have key : bigSep (Finset.univ.erase t) (fun s : T => st m ρ c s (a (laneOf s)))
      = bigSep (Finset.univ.erase t) (fun s : T => st m ρ c s (Function.update a (laneOf t) (n + 1) (laneOf s))) := by
    refine bigSep_congr fun s hs => ?_
    by_cases e : laneOf s = laneOf t
    · rw [e, Function.update_self, ha]
      have hne : hopOf s ≠ hopOf t := fun h => (Finset.mem_erase.mp hs).1 (T_ext e h)
      rcases Nat.lt_or_gt_of_ne hne with h | h
      · rw [st_done m ρ c s (by omega), st_done m ρ c s (by omega)]
      · rw [st_pend m ρ c s (by omega), st_pend m ρ c s (by omega)]
    · rw [Function.update_of_ne e]
  unfold lanes
  rw [bigSep_univ_at _ t, ha, key]
  iintro ⟨H, Hr⟩
  isplitl [H]; · iexact H
  iintro H
  rw [bigSep_univ_at (fun s : T => st m ρ c s (Function.update a (laneOf t) (n + 1) (laneOf s))) t, Function.update_self]
  isplitl [H] <;> iassumption

theorem todo_start (a : Lane → ℕ) (t : T) (ha : a (laneOf t) = 2 * hopOf t) :
    todo (Function.update a (laneOf t) (2 * hopOf t + 1)) = (todo a).erase t := by
  ext s
  rw [Finset.mem_erase, mem_todo, mem_todo]
  by_cases e : laneOf s = laneOf t
  · rw [e, Function.update_self, ha]
    constructor
    · exact fun h => ⟨fun hst => by subst hst; omega, by omega⟩
    · rintro ⟨h1, h2⟩
      have : hopOf s ≠ hopOf t := fun h => h1 (T_ext e h)
      omega
  · rw [Function.update_of_ne e]
    exact ⟨fun h => ⟨fun hst => e (by rw [hst]), h⟩, fun h => h.2⟩

theorem todo_wait (a : Lane → ℕ) (t : T) (ha : a (laneOf t) = 2 * hopOf t + 1) :
    todo (Function.update a (laneOf t) (2 * hopOf t + 2)) = todo a := by
  ext s
  rw [mem_todo, mem_todo]
  by_cases e : laneOf s = laneOf t
  · rw [e, Function.update_self, ha]; omega
  · rw [Function.update_of_ne e]

variable (K : Dev nD × KC → ℕ)

/-- A start. -/
theorem ring_start (c : Dev nD) (a : Lane → ℕ) (t : T) (ha : a (laneOf t) = 2 * hopOf t) (hx : xg.IsWhole)
    (o : Fin 3 → Nat) (ho : ∀ a, o a + S1x64x4096.size a ≤ S32x128x4096.size a)
    (hw : (Rect.unit (s := S32x128x4096) o S1x64x4096.size ho).WholeWords (EltTy.packing .fp8e4m3))
    (dst : Dev nD) (eo : o = offs (org c t) (halfOf t)) (ed : dst = dstOf c t) (Φ : PUnit → sProp 𝕄) :
    iprop(records m ρ K ∗ sndPay m ρ c t ∗ ringSt m ρ c a
        ∗ (ringSt m ρ c (Function.update a (laneOf t) (2 * hopOf t + 1)) -∗ Φ ⟨⟩))
      ⊢ wp frame (wpE (defs₀ (F := F)) 𝒱₀ (c : Thread nD τ) none) Set.univ (startC (F := F) xg hx o ho hw (sS t) (sR t) dst) Φ := by
  unfold ringSt
  iintro ⟨#HR, Hs, ⟨HL, HO⟩, Hk⟩
  ihave H := (lanes_take m ρ c a t (2 * hopOf t) ha (.inl rfl)) $$ HL
  icases H with ⟨Ht, Hback⟩
  ihave Ht := (Entails.of_eq ((st_pend m ρ c t le_rfl).trans (by unfold pend; rfl))) $$ Ht
  icases Ht with ⟨HaS, HaR, HcR, Htok⟩
  iapply (start_step m ρ K c t hx o ho hw dst eo ed (todo a) ((mem_todo a t).mpr (by omega)) Φ)
  isplitr; · iexact HR
  isplitl [Hs]; · iexact Hs
  isplitl [Htok]; · iexact Htok
  isplitl [HO]; · iexact HO
  iintro ⟨HcS, HO⟩
  iapply Hk
  rw [todo_start a t ha]
  isplitr [HO]; swap; · iexact HO
  iapply Hback
  rw [st_fly m ρ c t rfl]
  unfold fly
  isplitl [HaS]; · iexact HaS
  isplitl [HaR]; · iexact HaR
  isplitl [HcS] <;> iassumption

/-- A pair of waits. -/
theorem ring_wait (c : Dev nD) (a : Lane → ℕ) (t : T) (ha : a (laneOf t) = 2 * hopOf t + 1)
    (hmin : ∀ s, a (laneOf s) ≤ 2 * hopOf s → hopOf t < hopOf s) (hx : xg.IsWhole)
    (o : Fin 3 → Nat) (ho : ∀ a, o a + S1x64x4096.size a ≤ S32x128x4096.size a)
    (hw : (Rect.unit (s := S32x128x4096) o S1x64x4096.size ho).WholeWords (EltTy.packing .fp8e4m3)) (Φ : PUnit → sProp 𝕄) :
    iprop(records m ρ K ∗ levAts L lv ∗ ringSt m ρ c a
        ∗ ((ringSt m ρ c (Function.update a (laneOf t) (2 * hopOf t + 2)) ∗ gPts m ρ c (land c t) (halfOf t) fullShare.left) -∗ Φ ⟨⟩))
      ⊢ wp frame (wpE (defs₀ (F := F)) 𝒱₀ (c : Thread nD τ) none) Set.univ
          (waitC (F := F) xg hx o ho hw (sR t) >>= fun _ => waitC (F := F) xg hx o ho hw (sS t)) Φ := by
  unfold ringSt
  iintro ⟨#HR, #Hlev, ⟨HL, HO⟩, Hk⟩
  ihave H := (lanes_take m ρ c a t (2 * hopOf t + 1) ha (.inr rfl)) $$ HL
  icases H with ⟨Ht, Hback⟩
  ihave Ht := (Entails.of_eq (st_fly m ρ c t rfl)) $$ Ht
  iapply (wait_step m ρ K c t hx o ho hw (todo a) (fun s hs => hmin s ((mem_todo a s).mp hs)) Φ)
  isplitr; · iexact HR
  isplitr; · iexact Hlev
  isplitl [Ht]; · iexact Ht
  isplitl [HO]; · iexact HO
  iintro ⟨HpR, HpS, Hsh, HO⟩
  unfold rcvPay gPts pPts
  ihave Hsp := (pointsTo_share (PosShare.mem_left_op_right fullShare)).1 $$ HpR
  icases Hsp with ⟨Hl, Hr⟩
  iapply Hk
  rw [todo_wait a t ha]
  isplitr [Hl]; swap; · iexact Hl
  isplitr [HO]; swap; · iexact HO
  iapply Hback
  rw [st_done m ρ c t le_rfl]
  unfold done gPts pPts
  isplitl [HpS]; · iexact HpS
  isplitl [Hr] <;> iassumption

/-- A product of a chunk that has landed. -/
theorem ring_gemm (c o : Dev nD) (a : Lane → ℕ) (t0 t1 : T) (h0 : 2 * hopOf t0 + 2 ≤ a (laneOf t0)) (h1 : 2 * hopOf t1 + 2 ≤ a (laneOf t1))
    (b0 : halfOf t0 = 0) (b1 : halfOf t1 = 1) (e0 : land c t0 = o) (e1 : land c t1 = o) (D : Finset (Dev nD))
    (p : Fin 3 → Nat) (hp : ∀ a, p a + S1x128x4096.size a ≤ S32x128x4096.size a) (ep : p = ![o.val, 0, 0])
    (r : Fin 2 → Nat) (hr : ∀ a, r a + S128x256.size a ≤ S4096x256.size a) (er : r = ![128 * o.val, 0]) (Φ : PUnit → sProp 𝕄) :
    iprop(ringSt m ρ c a ∗ wSt m ρ c ∗ outSt m ρ c D
        ∗ ((ringSt m ρ c a ∗ wSt m ρ c ∗ outSt m ρ c (insert o D)) -∗ Φ ⟨⟩))
      ⊢ wp frame (wpE (defs₀ (F := F)) 𝒱₀ (c : Thread nD τ) none) Set.univ (gemmC (F := F) xg oM wM (alpha m ρ c) p hp r hr) Φ := by
  have hne : t1 ∈ Finset.univ.erase t0 := Finset.mem_erase.mpr ⟨fun h => by rw [h, b0] at b1; exact absurd b1 (by decide), Finset.mem_univ _⟩
  have hl : lanes m ρ c a = iprop(done m ρ c t0 ∗ done m ρ c t1
      ∗ bigSep ((Finset.univ.erase t0).erase t1) fun t : T => st m ρ c t (a (laneOf t))) := by
    unfold lanes
    rw [bigSep_univ_at _ t0, bigSep_erase hne, st_done m ρ c t0 h0, st_done m ρ c t1 h1]
    rfl
  unfold ringSt
  rw [hl]
  unfold done
  rw [b0, b1, e0, e1]
  iintro ⟨⟨⟨⟨A1, A2, A3⟩, ⟨B1, B2, B3⟩, Hr⟩, HO⟩, Hw, Ho, Hk⟩
  iapply (gemm_step m ρ c o fullShare.right D p hp ep r hr er Φ)
  isplitl [A2]; · iexact A2
  isplitl [B2]; · iexact B2
  isplitl [Hw]; · iexact Hw
  isplitl [Ho]; · iexact Ho
  iintro ⟨A2, B2, Hw, Ho⟩
  iapply Hk
  isplitr [Hw Ho]; swap
  · isplitl [Hw] <;> iassumption
  isplitr [HO]; swap; · iexact HO
  isplitl [A1 A2 A3]
  · isplitl [A1]; · iexact A1
    isplitl [A2] <;> iassumption
  isplitl [B1 B2 B3]
  · isplitl [B1]; · iexact B1
    isplitl [B2] <;> iassumption
  iexact Hr

end Cert.KernelIdeal.Ring
-- ==== Proof.Loop.lean ====
/- The steps of the ring in the order of the body: one step that sends both ways, all of them, and the closing one. -/
module

public import proofs.«01_k».proof.Proof.Lanes

@[expose] public section

noncomputable section

namespace Cert.KernelIdeal.Ring

open Cert.KernelIdeal.Gen Cert.KernelIdeal.Plan
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## The counts of the four lanes -/

/-- The counts, lane by lane: to the right by halves, to the left by halves. -/
def cnt (f0 f1 b0 b1 : ℕ) : Lane → ℕ
  | .inl h => if h = 0 then f0 else f1
  | .inr h => if h = 0 then b0 else b1

theorem upd_f0 (f0 f1 b0 b1 v : ℕ) : Function.update (cnt f0 f1 b0 b1) (.inl 0) v = cnt v f1 b0 b1 := by
  funext ℓ; rcases ℓ with h | h <;> fin_cases h <;> rfl
theorem upd_f1 (f0 f1 b0 b1 v : ℕ) : Function.update (cnt f0 f1 b0 b1) (.inl 1) v = cnt f0 v b0 b1 := by
  funext ℓ; rcases ℓ with h | h <;> fin_cases h <;> rfl
theorem upd_b0 (f0 f1 b0 b1 v : ℕ) : Function.update (cnt f0 f1 b0 b1) (.inr 0) v = cnt f0 f1 v b1 := by
  funext ℓ; rcases ℓ with h | h <;> fin_cases h <;> rfl
theorem upd_b1 (f0 f1 b0 b1 v : ℕ) : Function.update (cnt f0 f1 b0 b1) (.inr 1) v = cnt f0 f1 b0 v := by
  funext ℓ; rcases ℓ with h | h <;> fin_cases h <;> rfl

/-- A wait of step `n` waits for less than what any copy not started will do. -/
def Low (n f0 f1 b0 b1 : ℕ) : Prop := ∀ s : T, cnt f0 f1 b0 b1 (laneOf s) ≤ 2 * hopOf s → n < hopOf s
theorem low_of {n f0 f1 b0 b1 : ℕ} (hf0 : 2 * n + 1 ≤ f0) (hf1 : 2 * n + 1 ≤ f1) (hb0 : 2 * n + 1 ≤ b0 ∨ 29 ≤ b0) (hb1 : 2 * n + 1 ≤ b1 ∨ 29 ≤ b1) :
    Low n f0 f1 b0 b1 := by
  rintro (⟨b, h⟩ | ⟨b, h⟩) <;> have hh := h.isLt <;> fin_cases b <;> intro (hs : _ ≤ 2 * h.val) <;> show n < h.val
  · change f0 ≤ _ at hs; omega
  · change f1 ≤ _ at hs; omega
  · change b0 ≤ _ at hs; omega
  · change b1 ≤ _ at hs; omega

/-- What landed in one step is what the next one sends on. -/
theorem next_inl (c : Dev nD) (b : Fin 2) (h : Fin 16) (h' : Fin 16) (e : h'.val = h.val + 1) : land c (.inl (b, h)) = org c (.inl (b, h')) := by
  refine Fin.ext ((land_inl c _).trans ?_)
  show (c.val + 31 - h.val) % 32 = (c.val + 32 - h'.val) % 32
  rw [e]; congr 1; omega
theorem next_inr (c : Dev nD) (b : Fin 2) (h : Fin 15) (h' : Fin 15) (e : h'.val = h.val + 1) : land c (.inr (b, h)) = org c (.inr (b, h')) := by
  refine Fin.ext ((land_inr c _).trans ?_)
  show (c.val + 1 + h.val) % 32 = (c.val + h'.val) % 32
  rw [e]; congr 1; omega
theorem src_inl (c : Dev nD) (b : Fin 2) (h : Fin 16) (h' : Fin 16) (e : h'.val = h.val + 1) :
    gPts m ρ c (land c (.inl (b, h))) b fullShare.left = sndPay m ρ c (.inl (b, h')) := by rw [next_inl c b h h' e]; rfl
theorem src_inr (c : Dev nD) (b : Fin 2) (h : Fin 15) (h' : Fin 15) (e : h'.val = h.val + 1) :
    gPts m ρ c (land c (.inr (b, h))) b fullShare.left = sndPay m ρ c (.inr (b, h')) := by
  rw [next_inr c b h h' e]
  unfold sndPay
  rw [show shareOf (.inr (b, h')) = fullShare.left from if_neg (by show h'.val ≠ 0; omega)]
  rfl

variable (K : Dev nD × KC → ℕ) (hx : xg.IsWhole)

/-! ## The starts and the waits as the body writes them -/

section
variable (c : Dev nD) (f0 f1 b0 b1 : ℕ)

theorem sF0_step (h : Fin 16) (Φ : PUnit → sProp 𝕄) :
    iprop(records m ρ K ∗ sndPay m ρ c (.inl (0, h)) ∗ ringSt m ρ c (cnt (2 * h.val) f1 b0 b1)
        ∗ (ringSt m ρ c (cnt (2 * h.val + 1) f1 b0 b1) -∗ Φ ⟨⟩))
      ⊢ wp frame (wpE (defs₀ (F := F)) 𝒱₀ (c : Thread nD τ) none) Set.univ (sF0 (F := F) xg hx cc0_scratch2 cc0_scratch3 c h) Φ := by
  have H := ring_start m ρ K c (cnt (2 * h.val) f1 b0 b1) (.inl (0, h)) rfl hx _ (k0_off2_inb c h) (k0_off2_wordsfp8e4m3 c h) (rt c) (k0_off2_eq c h) rfl Φ
  rw [show Function.update (cnt (2 * h.val) f1 b0 b1) (laneOf (.inl (0, h))) (2 * hopOf (.inl (0, h)) + 1) = _ from upd_f0 _ _ _ _ _] at H
  exact H
theorem sF1_step (h : Fin 16) (Φ : PUnit → sProp 𝕄) :
    iprop(records m ρ K ∗ sndPay m ρ c (.inl (1, h)) ∗ ringSt m ρ c (cnt f0 (2 * h.val) b0 b1)
        ∗ (ringSt m ρ c (cnt f0 (2 * h.val + 1) b0 b1) -∗ Φ ⟨⟩))
      ⊢ wp frame (wpE (defs₀ (F := F)) 𝒱₀ (c : Thread nD τ) none) Set.univ (sF1 (F := F) xg hx cc0_scratch2 cc0_scratch3 c h) Φ := by
  have H := ring_start m ρ K c (cnt f0 (2 * h.val) b0 b1) (.inl (1, h)) rfl hx _ (k0_off4_inb c h) (k0_off4_wordsfp8e4m3 c h) (rt c) (k0_off4_eq c h) rfl Φ
  rw [show Function.update (cnt f0 (2 * h.val) b0 b1) (laneOf (.inl (1, h))) (2 * hopOf (.inl (1, h)) + 1) = _ from upd_f1 _ _ _ _ _] at H
  exact H
theorem sB0_step (h : Fin 15) (Φ : PUnit → sProp 𝕄) :
    iprop(records m ρ K ∗ sndPay m ρ c (.inr (0, h)) ∗ ringSt m ρ c (cnt f0 f1 (2 * h.val) b1)
        ∗ (ringSt m ρ c (cnt f0 f1 (2 * h.val + 1) b1) -∗ Φ ⟨⟩))
      ⊢ wp frame (wpE (defs₀ (F := F)) 𝒱₀ (c : Thread nD τ) none) Set.univ (sB0 (F := F) xg hx cc0_scratch4 cc0_scratch5 c h) Φ := by
  have H := ring_start m ρ K c (cnt f0 f1 (2 * h.val) b1) (.inr (0, h)) rfl hx _ (k0_off3_inb c h) (k0_off3_wordsfp8e4m3 c h) (lt c) (k0_off3_eq c h) rfl Φ
  rw [show Function.update (cnt f0 f1 (2 * h.val) b1) (laneOf (.inr (0, h))) (2 * hopOf (.inr (0, h)) + 1) = _ from upd_b0 _ _ _ _ _] at H
  exact H
theorem sB1_step (h : Fin 15) (Φ : PUnit → sProp 𝕄) :
    iprop(records m ρ K ∗ sndPay m ρ c (.inr (1, h)) ∗ ringSt m ρ c (cnt f0 f1 b0 (2 * h.val))
        ∗ (ringSt m ρ c (cnt f0 f1 b0 (2 * h.val + 1)) -∗ Φ ⟨⟩))
      ⊢ wp frame (wpE (defs₀ (F := F)) 𝒱₀ (c : Thread nD τ) none) Set.univ (sB1 (F := F) xg hx cc0_scratch4 cc0_scratch5 c h) Φ := by
  have H := ring_start m ρ K c (cnt f0 f1 b0 (2 * h.val)) (.inr (1, h)) rfl hx _ (k0_off5_inb c h) (k0_off5_wordsfp8e4m3 c h) (lt c) (k0_off5_eq c h) rfl Φ
  rw [show Function.update (cnt f0 f1 b0 (2 * h.val)) (laneOf (.inr (1, h))) (2 * hopOf (.inr (1, h)) + 1) = _ from upd_b1 _ _ _ _ _] at H
  exact H

theorem wF0_step (h : Fin 16) (hl : Low h.val (2 * h.val + 1) f1 b0 b1) (Φ : PUnit → sProp 𝕄) :
    iprop(records m ρ K ∗ levAts L lv ∗ ringSt m ρ c (cnt (2 * h.val + 1) f1 b0 b1)
        ∗ ((ringSt m ρ c (cnt (2 * h.val + 2) f1 b0 b1) ∗ gPts m ρ c (land c (.inl (0, h))) 0 fullShare.left) -∗ Φ ⟨⟩))
      ⊢ wp frame (wpE (defs₀ (F := F)) 𝒱₀ (c : Thread nD τ) none) Set.univ (wF0 (F := F) xg hx cc0_scratch2 cc0_scratch3 c h) Φ := by
  have H := ring_wait m ρ K c (cnt (2 * h.val + 1) f1 b0 b1) (.inl (0, h)) rfl hl hx _ (k0_off2_inb c h) (k0_off2_wordsfp8e4m3 c h) Φ
  rw [show Function.update (cnt (2 * h.val + 1) f1 b0 b1) (laneOf (.inl (0, h))) (2 * hopOf (.inl (0, h)) + 2) = _ from upd_f0 _ _ _ _ _] at H
  exact H
theorem wF1_step (h : Fin 16) (hl : Low h.val f0 (2 * h.val + 1) b0 b1) (Φ : PUnit → sProp 𝕄) :
    iprop(records m ρ K ∗ levAts L lv ∗ ringSt m ρ c (cnt f0 (2 * h.val + 1) b0 b1)
        ∗ ((ringSt m ρ c (cnt f0 (2 * h.val + 2) b0 b1) ∗ gPts m ρ c (land c (.inl (1, h))) 1 fullShare.left) -∗ Φ ⟨⟩))
      ⊢ wp frame (wpE (defs₀ (F := F)) 𝒱₀ (c : Thread nD τ) none) Set.univ (wF1 (F := F) xg hx cc0_scratch2 cc0_scratch3 c h) Φ := by
  have H := ring_wait m ρ K c (cnt f0 (2 * h.val + 1) b0 b1) (.inl (1, h)) rfl hl hx _ (k0_off4_inb c h) (k0_off4_wordsfp8e4m3 c h) Φ
  rw [show Function.update (cnt f0 (2 * h.val + 1) b0 b1) (laneOf (.inl (1, h))) (2 * hopOf (.inl (1, h)) + 2) = _ from upd_f1 _ _ _ _ _] at H
  exact H
theorem wB0_step (h : Fin 15) (hl : Low h.val f0 f1 (2 * h.val + 1) b1) (Φ : PUnit → sProp 𝕄) :
    iprop(records m ρ K ∗ levAts L lv ∗ ringSt m ρ c (cnt f0 f1 (2 * h.val + 1) b1)
        ∗ ((ringSt m ρ c (cnt f0 f1 (2 * h.val + 2) b1) ∗ gPts m ρ c (land c (.inr (0, h))) 0 fullShare.left) -∗ Φ ⟨⟩))
      ⊢ wp frame (wpE (defs₀ (F := F)) 𝒱₀ (c : Thread nD τ) none) Set.univ (wB0 (F := F) xg hx cc0_scratch4 cc0_scratch5 c h) Φ := by
  have H := ring_wait m ρ K c (cnt f0 f1 (2 * h.val + 1) b1) (.inr (0, h)) rfl hl hx _ (k0_off3_inb c h) (k0_off3_wordsfp8e4m3 c h) Φ
  rw [show Function.update (cnt f0 f1 (2 * h.val + 1) b1) (laneOf (.inr (0, h))) (2 * hopOf (.inr (0, h)) + 2) = _ from upd_b0 _ _ _ _ _] at H
  exact H
theorem wB1_step (h : Fin 15) (hl : Low h.val f0 f1 b0 (2 * h.val + 1)) (Φ : PUnit → sProp 𝕄) :
    iprop(records m ρ K ∗ levAts L lv ∗ ringSt m ρ c (cnt f0 f1 b0 (2 * h.val + 1))
        ∗ ((ringSt m ρ c (cnt f0 f1 b0 (2 * h.val + 2)) ∗ gPts m ρ c (land c (.inr (1, h))) 1 fullShare.left) -∗ Φ ⟨⟩))
      ⊢ wp frame (wpE (defs₀ (F := F)) 𝒱₀ (c : Thread nD τ) none) Set.univ (wB1 (F := F) xg hx cc0_scratch4 cc0_scratch5 c h) Φ := by
  have H := ring_wait m ρ K c (cnt f0 f1 b0 (2 * h.val + 1)) (.inr (1, h)) rfl hl hx _ (k0_off5_inb c h) (k0_off5_wordsfp8e4m3 c h) Φ
  rw [show Function.update (cnt f0 f1 b0 (2 * h.val + 1)) (laneOf (.inr (1, h))) (2 * hopOf (.inr (1, h)) + 2) = _ from upd_b1 _ _ _ _ _] at H
  exact H

/-! ## The products as the body writes them -/

/-- The chunks at most `k` places away, either way. -/
def near (k : ℕ) : Finset (Dev nD) := Finset.univ.filter fun o => (o.val + 32 - c.val) % 32 ≤ k ∨ (c.val + 32 - o.val) % 32 ≤ k
theorem near_succ (k : ℕ) (hk : k < 16) (oL oR : Dev nD) (eL : oL.val = (c.val + 31 - k) % 32) (eR : oR.val = (c.val + 1 + k) % 32) :
    insert oR (insert oL (near c k)) = near c (k + 1) := by
  ext o
  rw [Finset.mem_insert, Finset.mem_insert, near, near, Finset.mem_filter, Finset.mem_filter]
  have ho := dev_lt o; have hc := dev_lt c
  rw [show o = oR ↔ o.val = oR.val from Fin.ext_iff, show o = oL ↔ o.val = oL.val from Fin.ext_iff]
  simp only [Finset.mem_univ, true_and]
  omega
theorem near_last (o : Dev nD) (eo : o.val = (c.val + 16) % 32) : insert o (near c 15) = Finset.univ := by
  ext i
  rw [Finset.mem_insert, near, Finset.mem_filter]
  have hi := dev_lt i; have hc := dev_lt c
  rw [show i = o ↔ i.val = o.val from Fin.ext_iff]
  simp only [Finset.mem_univ, true_and, iff_true]
  omega

theorem gL_step (a : Lane → ℕ) (D : Finset (Dev nD)) (r : Fin 15) (h0 : 2 * r.val + 2 ≤ a (.inl 0)) (h1 : 2 * r.val + 2 ≤ a (.inl 1)) (Φ : PUnit → sProp 𝕄) :
    iprop(ringSt m ρ c a ∗ wSt m ρ c ∗ outSt m ρ c D
        ∗ ((ringSt m ρ c a ∗ wSt m ρ c ∗ outSt m ρ c (insert (land c (.inl (0, ⟨r.val, by omega⟩))) D)) -∗ Φ ⟨⟩))
      ⊢ wp frame (wpE (defs₀ (F := F)) 𝒱₀ (c : Thread nD τ) none) Set.univ (gL (F := F) oM xg wM c (alpha m ρ c) r) Φ := by
  have hL := land_inl c ((0 : Fin 2), (⟨r.val, by omega⟩ : Fin 16))
  refine ring_gemm m ρ c (land c (.inl (0, ⟨r.val, by omega⟩))) a (.inl (0, ⟨r.val, by omega⟩)) (.inl (1, ⟨r.val, by omega⟩)) h0 h1 rfl rfl rfl rfl D
    _ (k0_off7_inb c r) ((k0_off7_eq c r).trans ?_) _ (k0_off8_inb c r) ((k0_off8_eq c r).trans ?_) Φ <;> rw [hL]
theorem gR_step (a : Lane → ℕ) (D : Finset (Dev nD)) (r : Fin 15) (h0 : 2 * r.val + 2 ≤ a (.inr 0)) (h1 : 2 * r.val + 2 ≤ a (.inr 1)) (Φ : PUnit → sProp 𝕄) :
    iprop(ringSt m ρ c a ∗ wSt m ρ c ∗ outSt m ρ c D
        ∗ ((ringSt m ρ c a ∗ wSt m ρ c ∗ outSt m ρ c (insert (land c (.inr (0, r))) D)) -∗ Φ ⟨⟩))
      ⊢ wp frame (wpE (defs₀ (F := F)) 𝒱₀ (c : Thread nD τ) none) Set.univ (gR (F := F) oM xg wM c (alpha m ρ c) ⟨r.val, by omega⟩) Φ := by
  have hL : (land c (.inr (0, r))).val = (c.val + r.val + 1) % 32 := (land_inr c (0, r)).trans (by show (c.val + 1 + r.val) % 32 = _; congr 1; omega)
  refine ring_gemm m ρ c (land c (.inr (0, r))) a (.inr (0, r)) (.inr (1, r)) h0 h1 rfl rfl rfl rfl D
    _ (k0_off9_inb c ⟨r.val, by omega⟩) ((k0_off9_eq c ⟨r.val, by omega⟩).trans ?_) _ (k0_off10_inb c ⟨r.val, by omega⟩)
    ((k0_off10_eq c ⟨r.val, by omega⟩).trans ?_) Φ <;> rw [hL]
theorem gR_last (a : Lane → ℕ) (D : Finset (Dev nD)) (h0 : 32 ≤ a (.inl 0)) (h1 : 32 ≤ a (.inl 1)) (Φ : PUnit → sProp 𝕄) :
    iprop(ringSt m ρ c a ∗ wSt m ρ c ∗ outSt m ρ c D
        ∗ ((ringSt m ρ c a ∗ wSt m ρ c ∗ outSt m ρ c (insert (land c (.inl (0, 15))) D)) -∗ Φ ⟨⟩))
      ⊢ wp frame (wpE (defs₀ (F := F)) 𝒱₀ (c : Thread nD τ) none) Set.univ (gR (F := F) oM xg wM c (alpha m ρ c) 15) Φ := by
  have hL : (land c (.inl (0, 15))).val = (c.val + 15 + 1) % 32 := (land_inl c (0, 15)).trans (by show (c.val + 31 - 15) % 32 = _; congr 1)
  refine ring_gemm m ρ c (land c (.inl (0, 15))) a (.inl (0, 15)) (.inl (1, 15)) h0 h1 rfl rfl rfl rfl D
    _ (k0_off9_inb c 15) ((k0_off9_eq c 15).trans ?_) _ (k0_off10_inb c 15) ((k0_off10_eq c 15).trans ?_) Φ <;> rw [hL] <;> rfl

end

/-! ## A step that sends both ways -/

/-- Between the steps: every lane has started step `k` and waited for all before it, and the chunks within `k` places are multiplied. -/
def LI (c : Dev nD) (k : ℕ) : sProp 𝕄 :=
  iprop(ringSt m ρ c (cnt (2 * k + 1) (2 * k + 1) (2 * k + 1) (2 * k + 1)) ∗ wSt m ρ c ∗ outSt m ρ c (near c k))

theorem hop_step (c : Dev nD) (r : Fin 14) (Φ : PUnit → sProp 𝕄) :
    iprop(records m ρ K ∗ levAts L lv ∗ LI m ρ c r.val ∗ (LI m ρ c (r.val + 1) -∗ Φ ⟨⟩))
      ⊢ wp frame (wpE (defs₀ (F := F)) 𝒱₀ (c : Thread nD τ) none) Set.univ
          (hop (F := F) oM xg hx wM cc0_scratch2 cc0_scratch3 cc0_scratch4 cc0_scratch5 c (alpha m ρ c) r) Φ := by
  have hr := r.isLt
  have p6 : r.val < 16 := by omega
  have q6 : r.val + 1 < 16 := by omega
  have p5 : r.val < 15 := by omega
  have q5 : r.val + 1 < 15 := by omega
  have up : 2 * r.val + 1 ≤ 2 * (r.val + 1) + 1 := by omega
  have up' : 2 * r.val + 2 ≤ 2 * (r.val + 1) + 1 := by omega
  unfold hop LI
  iintro ⟨#HR, #Hlev, ⟨HS, Hw, Ho⟩, Hk⟩
  rw [wp_bind]
  iapply (wF0_step m ρ K hx c _ _ _ ⟨r.val, p6⟩ (low_of le_rfl le_rfl (.inl le_rfl) (.inl le_rfl)))
  isplitr; · iexact HR
  isplitr; · iexact Hlev
  isplitl [HS]; · iexact HS
  iintro ⟨HS, Hl⟩
  rw [wp_bind]
  iapply (sF0_step m ρ K hx c _ _ _ ⟨r.val + 1, q6⟩)
  isplitr; · iexact HR
  isplitl [Hl]; · iapply (Entails.of_eq (src_inl m ρ c 0 ⟨r.val, p6⟩ ⟨r.val + 1, q6⟩ rfl)); iexact Hl
  isplitl [HS]; · iexact HS
  iintro HS
  rw [wp_bind]
  iapply (wF1_step m ρ K hx c _ _ _ ⟨r.val, p6⟩ (low_of up le_rfl (.inl le_rfl) (.inl le_rfl)))
  isplitr; · iexact HR
  isplitr; · iexact Hlev
  isplitl [HS]; · iexact HS
  iintro ⟨HS, Hl⟩
  rw [wp_bind]
  iapply (sF1_step m ρ K hx c _ _ _ ⟨r.val + 1, q6⟩)
  isplitr; · iexact HR
  isplitl [Hl]; · iapply (Entails.of_eq (src_inl m ρ c 1 ⟨r.val, p6⟩ ⟨r.val + 1, q6⟩ rfl)); iexact Hl
  isplitl [HS]; · iexact HS
  iintro HS
  rw [wp_bind]
  iapply (wB0_step m ρ K hx c _ _ _ ⟨r.val, p5⟩
    (low_of up up (.inl le_rfl) (.inl le_rfl)))
  isplitr; · iexact HR
  isplitr; · iexact Hlev
  isplitl [HS]; · iexact HS
  iintro ⟨HS, Hl⟩
  rw [wp_bind]
  iapply (sB0_step m ρ K hx c _ _ _ ⟨r.val + 1, q5⟩)
  isplitr; · iexact HR
  isplitl [Hl]; · iapply (Entails.of_eq (src_inr m ρ c 0 ⟨r.val, p5⟩ ⟨r.val + 1, q5⟩ rfl)); iexact Hl
  isplitl [HS]; · iexact HS
  iintro HS
  rw [wp_bind]
  iapply (wB1_step m ρ K hx c _ _ _ ⟨r.val, p5⟩
    (low_of up up
      (.inl up) (.inl le_rfl)))
  isplitr; · iexact HR
  isplitr; · iexact Hlev
  isplitl [HS]; · iexact HS
  iintro ⟨HS, Hl⟩
  rw [wp_bind]
  iapply (sB1_step m ρ K hx c _ _ _ ⟨r.val + 1, q5⟩)
  isplitr; · iexact HR
  isplitl [Hl]; · iapply (Entails.of_eq (src_inr m ρ c 1 ⟨r.val, p5⟩ ⟨r.val + 1, q5⟩ rfl)); iexact Hl
  isplitl [HS]; · iexact HS
  iintro HS
  rw [wp_bind]
  iapply (gL_step m ρ c (cnt (2 * (r.val + 1) + 1) (2 * (r.val + 1) + 1) (2 * (r.val + 1) + 1) (2 * (r.val + 1) + 1)) (near c r.val)
    ⟨r.val, p5⟩ up' up')
  isplitl [HS]; · iexact HS
  isplitl [Hw]; · iexact Hw
  isplitl [Ho]; · iexact Ho
  iintro ⟨HS, Hw, Ho⟩
  iapply (gR_step m ρ c (cnt (2 * (r.val + 1) + 1) (2 * (r.val + 1) + 1) (2 * (r.val + 1) + 1) (2 * (r.val + 1) + 1)) _
    ⟨r.val, p5⟩ up' up')
  isplitl [HS]; · iexact HS
  isplitl [Hw]; · iexact Hw
  isplitl [Ho]; · iexact Ho
  rw [near_succ c r.val p6 (land c (.inl (0, ⟨r.val, p6⟩))) (land c (.inr (0, ⟨r.val, p5⟩))) (land_inl c _) (land_inr c _)]
  iintro ⟨HS, Hw, Ho⟩
  iapply Hk
  isplitl [HS]; · iexact HS
  isplitl [Hw] <;> iassumption

/-- All steps from `n` on, and then `k`. -/
theorem hops_step (c : Dev nD) (R : sProp 𝕄) (k : Prog (TpuEff nD τ sig (Elt F) Λ₀ .tc) PUnit) (Φ : PUnit → sProp 𝕄)
    (hk : iprop(records m ρ K ∗ levAts L lv ∗ LI m ρ c 14 ∗ R) ⊢ wp frame (wpE (defs₀ (F := F)) 𝒱₀ (c : Thread nD τ) none) Set.univ k Φ) :
    ∀ j n : ℕ, n + j = 14 → (iprop(records m ρ K ∗ levAts L lv ∗ LI m ρ c n ∗ R)
      ⊢ wp frame (wpE (defs₀ (F := F)) 𝒱₀ (c : Thread nD τ) none) Set.univ
          (hops (F := F) oM xg hx wM cc0_scratch2 cc0_scratch3 cc0_scratch4 cc0_scratch5 c (alpha m ρ c) k ((List.finRange 14).drop n)) Φ)
  | 0, n, e => by
    obtain rfl : n = 14 := by omega
    rw [List.drop_eq_nil_of_le (by rw [List.length_finRange])]
    exact hk
  | j + 1, n, e => by
    rw [List.drop_eq_getElem_cons (by rw [List.length_finRange]; omega), List.getElem_finRange]
    unfold hops
    rw [wp_bind]
    iintro ⟨#HR, #Hlev, HL, HRest⟩
    iapply (hop_step m ρ K hx c ⟨n, by omega⟩)
    isplitr; · iexact HR
    isplitr; · iexact Hlev
    isplitl [HL]; · iexact HL
    iintro HL
    iapply (hops_step c R k Φ hk j (n + 1) (by omega))
    isplitr; · iexact HR
    isplitr; · iexact Hlev
    isplitl [HL] <;> iassumption

/-! ## The closing step -/

/-- What is left of the landings of the last steps. -/
def lasts (c : Dev nD) : sProp 𝕄 :=
  iprop(gPts m ρ c (land c (.inl (0, 15))) 0 fullShare.left ∗ gPts m ρ c (land c (.inl (1, 15))) 1 fullShare.left
    ∗ gPts m ρ c (land c (.inr (0, 14))) 0 fullShare.left ∗ gPts m ρ c (land c (.inr (1, 14))) 1 fullShare.left)
/-- The end of the body: all copies over, all chunks multiplied. -/
def endSt (c : Dev nD) : sProp 𝕄 :=
  iprop(ringSt m ρ c (cnt 32 32 30 30) ∗ wSt m ρ c ∗ outSt m ρ c Finset.univ ∗ lasts m ρ c)

theorem closing_step (c : Dev nD) (Φ : PUnit → sProp 𝕄) :
    iprop(records m ρ K ∗ levAts L lv ∗ LI m ρ c 14 ∗ (endSt m ρ c -∗ Φ ⟨⟩))
      ⊢ wp frame (wpE (defs₀ (F := F)) 𝒱₀ (c : Thread nD τ) none) Set.univ
          (closing (F := F) oM xg hx wM cc0_scratch2 cc0_scratch3 cc0_scratch4 cc0_scratch5 c (alpha m ρ c)) Φ := by
  unfold closing LI endSt lasts
  iintro ⟨#HR, #Hlev, ⟨HS, Hw, Ho⟩, Hk⟩
  rw [wp_bind]
  iapply (wF0_step m ρ K hx c 29 29 29 14 (low_of le_rfl (by decide) (.inl (by decide)) (.inl (by decide))))
  isplitr; · iexact HR
  isplitr; · iexact Hlev
  isplitl [HS]; · iexact HS
  iintro ⟨HS, Hl⟩
  rw [wp_bind]
  iapply (sF0_step m ρ K hx c 29 29 29 15)
  isplitr; · iexact HR
  isplitl [Hl]; · iapply (Entails.of_eq (src_inl m ρ c 0 14 15 rfl)); iexact Hl
  isplitl [HS]; · iexact HS
  iintro HS
  rw [wp_bind]
  iapply (wF1_step m ρ K hx c 31 29 29 14 (low_of (by decide) (by decide) (.inl (by decide)) (.inl (by decide))))
  isplitr; · iexact HR
  isplitr; · iexact Hlev
  isplitl [HS]; · iexact HS
  iintro ⟨HS, Hl⟩
  rw [wp_bind]
  iapply (sF1_step m ρ K hx c 31 29 29 15)
  isplitr; · iexact HR
  isplitl [Hl]; · iapply (Entails.of_eq (src_inl m ρ c 1 14 15 rfl)); iexact Hl
  isplitl [HS]; · iexact HS
  iintro HS
  rw [wp_bind]
  iapply (wB0_step m ρ K hx c 31 31 29 14 (low_of (by decide) (by decide) (.inl (by decide)) (.inl (by decide))))
  isplitr; · iexact HR
  isplitr; · iexact Hlev
  isplitl [HS]; · iexact HS
  iintro ⟨HS, Hb0⟩
  rw [wp_bind]
  iapply (wB1_step m ρ K hx c 31 31 30 14 (low_of (by decide) (by decide) (.inl (by decide)) (.inl (by decide))))
  isplitr; · iexact HR
  isplitr; · iexact Hlev
  isplitl [HS]; · iexact HS
  iintro ⟨HS, Hb1⟩
  rw [wp_bind]
  iapply (gL_step m ρ c (cnt 31 31 30 30) (near c 14) 14 (by decide) (by decide))
  isplitl [HS]; · iexact HS
  isplitl [Hw]; · iexact Hw
  isplitl [Ho]; · iexact Ho
  iintro ⟨HS, Hw, Ho⟩
  rw [wp_bind]
  iapply (gR_step m ρ c (cnt 31 31 30 30) _ 14 (by decide) (by decide))
  isplitl [HS]; · iexact HS
  isplitl [Hw]; · iexact Hw
  isplitl [Ho]; · iexact Ho
  rw [near_succ c 14 (by omega) (land c (.inl (0, ⟨(14 : Fin 15).val, by decide⟩))) (land c (.inr (0, 14))) (land_inl c _) (land_inr c _)]
  iintro ⟨HS, Hw, Ho⟩
  rw [wp_bind]
  iapply (wF0_step m ρ K hx c 31 30 30 15 (low_of (by decide) (by decide) (.inr (by decide)) (.inr (by decide))))
  isplitr; · iexact HR
  isplitr; · iexact Hlev
  isplitl [HS]; · iexact HS
  iintro ⟨HS, Hf0⟩
  rw [wp_bind]
  iapply (wF1_step m ρ K hx c 32 30 30 15 (low_of (by decide) (by decide) (.inr (by decide)) (.inr (by decide))))
  isplitr; · iexact HR
  isplitr; · iexact Hlev
  isplitl [HS]; · iexact HS
  iintro ⟨HS, Hf1⟩
  iapply (gR_last m ρ c (cnt 32 32 30 30) _ (by decide) (by decide))
  isplitl [HS]; · iexact HS
  isplitl [Hw]; · iexact Hw
  isplitl [Ho]; · iexact Ho
  rw [near_last c (land c (.inl (0, 15))) ((land_inl c _).trans (by show (c.val + 31 - 15) % 32 = _; congr 1))]
  iintro ⟨HS, Hw, Ho⟩
  iapply Hk
  isplitl [HS]; · iexact HS
  isplitl [Hw]; · iexact Hw
  isplitl [Ho]; · iexact Ho
  isplitl [Hf0]; · iexact Hf0
  isplitl [Hf1]; · iexact Hf1
  isplitl [Hb0] <;> iassumption

end Cert.KernelIdeal.Ring
-- ==== Proof.Ends.lean ====
/- The gathered buffer taken apart at the start of the body, into the pieces copies land in and the device's own, and put
   together again at its end. -/
module

public import proofs.«01_k».proof.Proof.Loop

@[expose] public section

noncomputable section

namespace Cert.KernelIdeal.Ring

open Cert.KernelIdeal.Gen Cert.KernelIdeal.Plan
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## Into pieces -/

/-- The whole buffer is the device's own two pieces and the pieces its copies land in. -/
theorem scr_pieces (c : Dev nD) (f : (cc0_scratch0 : Ref sig .tc).ty.Contents (Elt F)) :
    (((c : Thread nD τ).loc cc0_scratch0) ↦{fullShare} f : sProp 𝕄)
      = iprop((pPts (F := F) c c 0 fullShare f ∗ pPts (F := F) c c 1 fullShare f)
        ∗ bigSep Finset.univ fun t : T => pPts (F := F) c (land c t) (halfOf t) fullShare f) := by
  have h := pointsTo_biUnion (Ix := Unit) (Name := ℕ) (U := UU) (Lvl := ℕ) (ℓ := xg.view.loc (c : Thread nD τ)) (q := fullShare) (f := f)
    Finset.univ (psetOf c) (fun x _ y _ h => psetOf_disj c x y h)
  rw [psetOf_cover c, bigSep_univ_sum, bigSep_fin_two] at h
  exact h

/-- The landing pieces by direction. -/
theorem by_dir (Φ : T → sProp 𝕄) : bigSep Finset.univ Φ
    = iprop((bigSep Finset.univ fun p : Fin 2 × Fin 16 => Φ (.inl p)) ∗ bigSep Finset.univ fun p : Fin 2 × Fin 15 => Φ (.inr p)) :=
  bigSep_univ_sum Φ

/-- … and by lane. -/
theorem by_lane (Φ : T → sProp 𝕄) : bigSep Finset.univ Φ
    = iprop(((bigSep Finset.univ fun h : Fin 16 => Φ (.inl (0, h))) ∗ bigSep Finset.univ fun h : Fin 16 => Φ (.inl (1, h)))
      ∗ (bigSep Finset.univ fun h : Fin 15 => Φ (.inr (0, h))) ∗ bigSep Finset.univ fun h : Fin 15 => Φ (.inr (1, h))) := by
  rw [by_dir, bigSep_univ_prod, bigSep_univ_prod, bigSep_fin_two, bigSep_fin_two]; rfl

/-- What a device hands its left neighbour at the barrier: where the copies from the left will land. -/
theorem give_lt (c : Dev nD) (f : (cc0_scratch0 : Ref sig .tc).ty.Contents (Elt F)) :
    (bigSep Finset.univ fun p : Fin 2 × Fin 16 => pPts (F := F) c (land c (.inl p)) (halfOf (.inl p)) fullShare f) ⊢ barPay (F := F) (lt c) true := by
  show _ ⊢ bigSep Finset.univ fun p : Fin 2 × Fin 16 => slot (F := F) (lt c) (.inl p)
  refine bigSep_mono fun p _ => ?_
  unfold slot
  rw [show dstOf (lt c) (.inl p) = c from rt_lt c]
  show pPts (F := F) c (land c (.inl p)) (halfOf (.inl p)) fullShare f ⊢ (iprop(∃ f, pPts (F := F) c (land c (.inl p)) (halfOf (.inl p)) fullShare f) : sProp 𝕄)
  iintro H; iexists f; iexact H
/-- … and its right neighbour. -/
theorem give_rt (c : Dev nD) (f : (cc0_scratch0 : Ref sig .tc).ty.Contents (Elt F)) :
    (bigSep Finset.univ fun p : Fin 2 × Fin 15 => pPts (F := F) c (land c (.inr p)) (halfOf (.inr p)) fullShare f) ⊢ barPay (F := F) (rt c) false := by
  show _ ⊢ bigSep Finset.univ fun p : Fin 2 × Fin 15 => slot (F := F) (rt c) (.inr p)
  refine bigSep_mono fun p _ => ?_
  unfold slot
  rw [show dstOf (rt c) (.inr p) = c from lt_rt c]
  show pPts (F := F) c (land c (.inr p)) (halfOf (.inr p)) fullShare f ⊢ (iprop(∃ f, pPts (F := F) c (land c (.inr p)) (halfOf (.inr p)) fullShare f) : sProp 𝕄)
  iintro H; iexists f; iexact H
/-- What the neighbours' arrivals give: the places of all copies of the device. -/
theorem slots_of (c : Dev nD) : iprop(barPay (F := F) c false ∗ barPay (F := F) c true)
    ⊢ (bigSep Finset.univ fun t : T => slot (F := F) c t : sProp 𝕄) := by
  rw [by_dir]
  show iprop((bigSep Finset.univ fun p : Fin 2 × Fin 15 => slot (F := F) c (.inr p)) ∗ bigSep Finset.univ fun p : Fin 2 × Fin 16 => slot (F := F) c (.inl p)) ⊢ _
  iintro ⟨H1, H2⟩
  isplitl [H2] <;> iassumption

/-- A device's own piece in three shares: one to send to the right, one to the left, one to multiply. -/
theorem own_shares (c : Dev nD) (b : Fin 2) : gPts m ρ c c b fullShare
    ⊣⊢ iprop(gPts m ρ c c b fullShare.left ∗ gPts m ρ c c b fullShare.right.left ∗ gPts m ρ c c b fullShare.right.right) := by
  have h1 := fun (q : PosShare TreeShare) => pointsTo_share (Ix := Unit) (Name := ℕ) (U := UU) (Lvl := ℕ) (ℓ := (pm c b).view.loc (c : Thread nD τ))
    (I := (pm c b).view.set) (f := gath m ρ) (PosShare.mem_left_op_right q)
  constructor
  · exact (h1 fullShare).1.trans (BIClass.sep_mono (Entails.refl _) (h1 fullShare.right).1)
  · exact (BIClass.sep_mono (Entails.refl _) (h1 fullShare.right).2).trans (h1 fullShare).2

theorem org_inl0 (c : Dev nD) (b : Fin 2) : org c (.inl (b, 0)) = c :=
  Fin.ext (by show (c.val + 32 - 0) % 32 = c.val; have := dev_lt c; omega)
theorem org_inr0 (c : Dev nD) (b : Fin 2) : org c (.inr (b, 0)) = c :=
  Fin.ext (by show (c.val + 0) % 32 = c.val; have := dev_lt c; omega)
theorem first_inl (c : Dev nD) (b : Fin 2) : sndPay m ρ c (.inl (b, 0)) = gPts m ρ c c b fullShare.left := by
  unfold sndPay; rw [org_inl0]; rfl
theorem first_inr (c : Dev nD) (b : Fin 2) : sndPay m ρ c (.inr (b, 0)) = gPts m ρ c c b fullShare.right.left := by
  unfold sndPay; rw [org_inr0]; rfl

/-- The own chunk, once stored, in its shares. -/
theorem own_split (c : Dev nD) (f : (cc0_scratch0 : Ref sig .tc).ty.Contents (Elt F)) (hf : ∀ i ∈ cset c, f i = gath m ρ i) :
    (xg.view.loc (c : Thread nD τ) ↦[cset c]{fullShare} f)
      ⊢ (iprop((sndPay m ρ c (.inl (0, 0)) ∗ sndPay m ρ c (.inr (0, 0)) ∗ gPts m ρ c c 0 fullShare.right.right)
        ∗ sndPay m ρ c (.inl (1, 0)) ∗ sndPay m ρ c (.inr (1, 0)) ∗ gPts m ρ c c 1 fullShare.right.right) : sProp 𝕄) := by
  rw [first_inl, first_inl, first_inr, first_inr, pointsTo_congr (g := gath m ρ) hf]
  exact (pointsTo_union (halves_disj c)).1.trans (BIClass.sep_mono (own_shares m ρ c 0).1 (own_shares m ρ c 1).1)

/-! ## Together again -/

omit [FloatOps F] in
/-- A chain moved on by one: what each step leaves is what the next started from. -/
theorem chain {n : ℕ} (Φ Ψ : Fin (n + 1) → sProp 𝕄) (h : ∀ k : Fin n, Ψ k.castSucc = Φ k.succ) :
    iprop(bigSep Finset.univ Φ ∗ Ψ (Fin.last n)) ⊢ iprop(Φ 0 ∗ bigSep Finset.univ Ψ) := by
  have e1 : bigSep Finset.univ Φ = iprop(Φ 0 ∗ bigSep Finset.univ fun k : Fin n => Φ k.succ) := by
    rw [Fin.univ_succ, Finset.cons_eq_insert, bigSep_insert (by simp [Fin.succ_ne_zero]), bigSep_map]; rfl
  have e2 : bigSep Finset.univ Ψ = iprop(Ψ (Fin.last n) ∗ bigSep Finset.univ fun k : Fin n => Ψ k.castSucc) := by
    rw [Fin.univ_castSuccEmb, Finset.cons_eq_insert, bigSep_insert (by simp [Fin.castSucc_ne_last]), bigSep_map]; rfl
  rw [e1, e2, bigSep_congr (fun k _ => h k)]
  iintro ⟨⟨H1, H2⟩, H3⟩
  isplitl [H1]; · iexact H1
  isplitl [H3] <;> iassumption

/-- What went out on the way right, with the last landing's share, is the own share and those of all landings. -/
theorem back_inl (c : Dev nD) (b : Fin 2) :
    iprop((bigSep Finset.univ fun h : Fin 16 => sndPay m ρ c (.inl (b, h))) ∗ gPts m ρ c (land c (.inl (b, 15))) b fullShare.left)
      ⊢ iprop(gPts m ρ c c b fullShare.left ∗ bigSep Finset.univ fun h : Fin 16 => gPts m ρ c (land c (.inl (b, h))) b fullShare.left) := by
  have := chain (F := F) (n := 15) (fun h => sndPay m ρ c (.inl (b, h))) (fun h => gPts m ρ c (land c (.inl (b, h))) b fullShare.left)
    (fun k => src_inl m ρ c b _ _ rfl)
  rwa [first_inl] at this
theorem back_inr (c : Dev nD) (b : Fin 2) :
    iprop((bigSep Finset.univ fun h : Fin 15 => sndPay m ρ c (.inr (b, h))) ∗ gPts m ρ c (land c (.inr (b, 14))) b fullShare.left)
      ⊢ iprop(gPts m ρ c c b fullShare.right.left ∗ bigSep Finset.univ fun h : Fin 15 => gPts m ρ c (land c (.inr (b, h))) b fullShare.left) := by
  have := chain (F := F) (n := 14) (fun h => sndPay m ρ c (.inr (b, h))) (fun h => gPts m ρ c (land c (.inr (b, h))) b fullShare.left)
    (fun k => src_inr m ρ c b _ _ rfl)
  rwa [first_inr] at this

/-- All copies over. -/
theorem lanes_end (c : Dev nD) : lanes m ρ c (cnt 32 32 30 30)
    = iprop((bigSep Finset.univ fun t : T => sndPay m ρ c t)
      ∗ (bigSep Finset.univ fun t : T => gPts m ρ c (land c t) (halfOf t) fullShare.right)
      ∗ bigSep Finset.univ fun t : T => shut (F := F) c t) := by
  rw [← bigSep_sep', ← bigSep_sep']
  unfold lanes
  refine bigSep_congr fun t _ => ?_
  rw [st_done]
  · rfl
  · rcases t with ⟨b, h⟩ | ⟨b, h⟩ <;> have := h.isLt <;> fin_cases b <;> show 2 * h.val + 2 ≤ _ <;>
      first | (show 2 * h.val + 2 ≤ 32; omega) | (show 2 * h.val + 2 ≤ 30; omega)

theorem todo_end : todo (cnt 32 32 30 30) = ∅ := by
  refine Finset.eq_empty_of_forall_notMem fun t ht => ?_
  rw [mem_todo] at ht
  rcases t with ⟨b, h⟩ | ⟨b, h⟩ <;> have := h.isLt <;> fin_cases b
  · change 32 ≤ 2 * h.val at ht; omega
  · change 32 ≤ 2 * h.val at ht; omega
  · change 30 ≤ 2 * h.val at ht; omega
  · change 30 ≤ 2 * h.val at ht; omega

/-- The buffer whole again, holding the gathered activations. -/
theorem rejoin (c : Dev nD) :
    iprop(lanes m ρ c (cnt 32 32 30 30) ∗ lasts m ρ c ∗ gPts m ρ c c 0 fullShare.right.right ∗ gPts m ρ c c 1 fullShare.right.right)
      ⊢ iprop((((c : Thread nD τ).loc cc0_scratch0) ↦{fullShare} (gath m ρ : (cc0_scratch0 : Ref sig .tc).ty.Contents (Elt F)))
        ∗ bigSep Finset.univ fun t : T => shut (F := F) c t) := by
  have hz : (bigSep Finset.univ fun t : T => pPts (F := F) c (land c t) (halfOf t) fullShare (gath m ρ))
      = iprop((bigSep Finset.univ fun t : T => gPts m ρ c (land c t) (halfOf t) fullShare.left)
        ∗ bigSep Finset.univ fun t : T => gPts m ρ c (land c t) (halfOf t) fullShare.right) := by
    rw [← bigSep_sep']
    refine bigSep_congr fun t _ => ?_
    have h := pointsTo_share (Ix := Unit) (Name := ℕ) (U := UU) (Lvl := ℕ)
      (ℓ := (pm (land c t) (halfOf t)).view.loc (c : Thread nD τ)) (I := (pm (land c t) (halfOf t)).view.set) (f := gath m ρ)
      (PosShare.mem_left_op_right fullShare)
    exact equiv_iff.mp ⟨h.1, h.2⟩
  rw [lanes_end, scr_pieces, hz, by_lane (fun t => sndPay m ρ c t), by_lane (fun t => gPts m ρ c (land c t) (halfOf t) fullShare.left)]
  unfold lasts
  iintro ⟨⟨⟨⟨F0, F1⟩, ⟨B0, B1⟩⟩, Hr, Hs⟩, ⟨L0, L1, M0, M1⟩, R0, R1⟩
  ihave A := (back_inl m ρ c 0) $$ [F0 L0]
  · isplitl [F0] <;> iassumption
  icases A with ⟨A0, F0⟩
  ihave A := (back_inl m ρ c 1) $$ [F1 L1]
  · isplitl [F1] <;> iassumption
  icases A with ⟨A1, F1⟩
  ihave A := (back_inr m ρ c 0) $$ [B0 M0]
  · isplitl [B0] <;> iassumption
  icases A with ⟨C0, B0⟩
  ihave A := (back_inr m ρ c 1) $$ [B1 M1]
  · isplitl [B1] <;> iassumption
  icases A with ⟨C1, B1⟩
  isplitr [Hs]; swap; · iexact Hs
  isplitl [A0 C0 R0 A1 C1 R1]
  · isplitl [A0 C0 R0]
    · iapply (own_shares m ρ c 0).2
      isplitl [A0]; · iexact A0
      isplitl [C0] <;> iassumption
    · iapply (own_shares m ρ c 1).2
      isplitl [A1]; · iexact A1
      isplitl [C1] <;> iassumption
  isplitr [Hr]; swap; · iexact Hr
  isplitl [F0 F1]
  · isplitl [F0]; · iexact F0
    iexact F1
  isplitl [B0]; · iexact B0
  iexact B1

end Cert.KernelIdeal.Ring
-- ==== Proof.Head.lean ====
/- The operations at the head of the body, one rule each: the two signals to the neighbours' barriers and the wait on the
   device's own, the loads of the operands, and the stores of the chunk and of the converted weights. -/
module

public import proofs.«01_k».proof.Proof.Ends

@[expose] public section

noncomputable section

namespace Cert.KernelIdeal.Ring

open Cert.KernelIdeal.Gen Cert.KernelIdeal.Plan
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

variable (K : Dev nD × KC → ℕ)

theorem id_step (c : Dev nD) (Φ : Dev nD → sProp 𝕄) :
    Φ c ⊢ wp frame (wpE (defs₀ (F := F)) 𝒱₀ (c : Thread nD τ) none) Set.univ (Prog.lift .deviceId) Φ := by
  simp only [Prog.lift, wp_deviceId, wp_ret]
  iintro H; imodintro; iexact H

/-! ## The barrier -/

theorem signal_lt (c : Dev nD) (W : Waits sig Unit) (Φ : PUnit → sProp 𝕄) :
    iprop(records m ρ K ∗ owes (c : Thread nD τ) (O₀ c) W ∗ dutyTok ER (barCell (lt c)) 0 true ∗ barPay (F := F) (lt c) true
        ∗ (owes (c : Thread nD τ) (O₁ c) W -∗ Φ ⟨⟩))
      ⊢ wp frame (wpE (defs₀ (F := F)) 𝒱₀ (c : Thread nD τ) none) Set.univ (semSignalWord (lt c) barS 1#32) Φ := by
  simp only [semSignalWord, Prog.lift, Prog.bind_op, Prog.bind_ret, Prog.pure_eq_ret]
  iintro ⟨#HR, HO, Ht, Hp, Hk⟩
  ihave H1 := (records_at m ρ K (lt c, none)) $$ HR
  icases H1 with ⟨#HI, #Hr⟩
  iapply (Rounds.wp_signal 𝒱₀ ER (ringRd m ρ) (c : Thread nD τ) none (dst := (lt c : Thread nD τ)) (κ := K (lt c, none))
      (d := true) (by rw [duties_bar]; exact Finset.mem_univ _) ((amount_bar m ρ (lt c) true).trans (by decide)) () (O₁ c) rfl)
    $$ [HO Ht Hp]
  · isplitr; · iexact HI
    isplitl [HO]; · iexact HO
    isplitl [Ht]; · iexact Ht
    isplitl [Hp]; · rw [payload_bar]; iexact Hp
    iexact Hr
  iintro HO
  rw [wp_ret]; imodintro
  iapply Hk; iexact HO

theorem signal_rt (c : Dev nD) (W : Waits sig Unit) (Φ : PUnit → sProp 𝕄) :
    iprop(records m ρ K ∗ owes (c : Thread nD τ) (O₁ c) W ∗ dutyTok ER (barCell (rt c)) 0 false ∗ barPay (F := F) (rt c) false
        ∗ (owes (c : Thread nD τ) (Oof c Finset.univ) W -∗ Φ ⟨⟩))
      ⊢ wp frame (wpE (defs₀ (F := F)) 𝒱₀ (c : Thread nD τ) none) Set.univ (semSignalWord (rt c) barS 1#32) Φ := by
  simp only [semSignalWord, Prog.lift, Prog.bind_op, Prog.bind_ret, Prog.pure_eq_ret]
  iintro ⟨#HR, HO, Ht, Hp, Hk⟩
  ihave H1 := (records_at m ρ K (rt c, none)) $$ HR
  icases H1 with ⟨#HI, #Hr⟩
  iapply (Rounds.wp_signal 𝒱₀ ER (ringRd m ρ) (c : Thread nD τ) none (dst := (rt c : Thread nD τ)) (κ := K (rt c, none))
      (d := false) (by rw [duties_bar]; exact Finset.mem_univ _) ((amount_bar m ρ (rt c) false).trans (by decide)) () (Oof c Finset.univ) rfl)
    $$ [HO Ht Hp]
  · isplitr; · iexact HI
    isplitl [HO]; · iexact HO
    isplitl [Ht]; · iexact Ht
    isplitl [Hp]; · rw [payload_bar]; iexact Hp
    iexact Hr
  iintro HO
  rw [wp_ret]; imodintro
  iapply Hk; iexact HO

/-- The wait for both neighbours: the places of all copies come with it, and the barrier's semaphore is done with. -/
theorem bar_wait (c : Dev nD) (W : Waits sig Unit) (Φ : PUnit → sProp 𝕄) :
    iprop(records m ρ K ∗ levAts L lv ∗ cred (tallyAt (barCell c) () 2) ∗ owes (c : Thread nD τ) (Oof c Finset.univ) W
        ∗ atPos ER (barCell c) 0 ∅ 0
        ∗ ((owesE (F := F) c Finset.univ ∗ (bigSep Finset.univ fun t : T => slot (F := F) c t) ∗ semVal (barCell c) 0) -∗ Φ ⟨⟩))
      ⊢ wp frame (wpE (defs₀ (F := F)) 𝒱₀ (c : Thread nD τ) none) Set.univ (semWaitWord barS 2#32) Φ := by
  simp only [semWaitWord, Prog.lift, Prog.bind_op, Prog.bind_ret, Prog.pure_eq_ret]
  iintro ⟨#HR, #Hlev, Hc, HO, Hat, Hk⟩
  ihave H1 := (records_at m ρ K (c, none)) $$ HR
  icases H1 with ⟨#HI, #Hr⟩
  iapply (Rounds.wp_wait_rest_token 𝒱₀ ER (ringRd m ρ) (c : Thread nD τ) none (κ := K (c, none))
      (wpE_semWait_eq 𝒱₀ (c : Thread nD τ) none Set.univ) (Set.mem_univ _) () (O := Oof c Finset.univ) (W := W) (R := 0) (m := 0) (T := ∅)
      (by rw [expect_bar]; decide)) $$ [Hc HO Hat]
  · isplitr; · iexact HI
    isplitl [Hc]; · iexact Hc
    isplitl [HO]; · iexact HO
    isplitr; · iapply (mayWait c (.reg barS) Finset.univ (fun t _ => by rw [lvS_bar]; omega)); iexact Hlev
    iexact Hat
  iintro ⟨HO, Hat, -, Hpay⟩
  ihave Hp := (Entails.of_eq (rest_bar m ρ c)) $$ Hpay
  ihave Hp := (slots_of c) $$ Hp
  imod (Rounds.cell_close ER (ringRd m ρ) (Set.mem_univ (K (c, none))) (fun h => h) (R := 0 + 1) (duties_later m ρ (barCell c))) $$ [Hat] with HzB
  · isplitr; · iexact HI
    iexact Hat
  rw [wp_ret]; imodintro
  iapply Hk
  isplitl [HO]; · unfold owesE; iexists _; iexact HO
  isplitl [Hp] <;> iassumption

/-! ## The loads and the stores -/

theorem hz : (![0, 0] : Fin 2 → Nat) = fun _ => 0 := funext fun a => by fin_cases a <;> rfl

/-- A buffer of the device held whole. -/
abbrev pts (c : Dev nD) (b : Ref sig .tc) (f : b.ty.Contents (Elt F)) : sProp 𝕄 := ((c : Thread nD τ).loc b) ↦{fullShare} f

theorem read_x (f : (cc0_stg0_0 : Ref sig .tc).ty.Contents (Elt F)) :
    (Memref.whole cc0_stg0_0 : Memref sig .tc .vmem S128x4096 .fp8e4m3).view.readAt (Elt F)
      (Rect.unit (s := S128x4096) ![0, 0] S128x4096.size inb_S128x4096_S128x4096_0_0).toLoadRect f = f :=
  Memref.readAt_unit_zero (Elt F) cc0_stg0_0 hz _ f
theorem read_w (f : (cc0_stg1_0 : Ref sig .tc).ty.Contents (Elt F)) :
    (Memref.whole cc0_stg1_0 : Memref sig .tc .vmem S4096x256 .fp8e4m3).view.readAt (Elt F)
      (Rect.unit (s := S4096x256) ![0, 0] S4096x256.size inb_S4096x256_S4096x256_0_0).toLoadRect f = f :=
  Memref.readAt_unit_zero (Elt F) cc0_stg1_0 hz _ f
theorem write_w (f w : (cc0_scratch1 : Ref sig .tc).ty.Contents (Elt F)) :
    (wM.access (Rect.unit (s := S4096x256) ![0, 0] S4096x256.size inb_S4096x256_S4096x256_0_0) : View sig .tc _ _ _).write (Elt F) f w Finset.univ = w :=
  Memref.write_access_unit_zero_univ (Elt F) cc0_scratch1 hz _ f w

theorem load_x (c : Dev nD) (f : (cc0_stg0_0 : Ref sig .tc).ty.Contents (Elt F)) (Φ : Vec F S128x4096 .fp8e4m3 → sProp 𝕄) :
    iprop(pts c cc0_stg0_0 f ∗ (pts c cc0_stg0_0 f -∗ Φ f))
      ⊢ wp frame (wpE (defs₀ (F := F)) 𝒱₀ (c : Thread nD τ) none) Set.univ
          (Prog.lift (.load (Memref.whole cc0_stg0_0 : Memref sig .tc .vmem S128x4096 .fp8e4m3)
            (Rect.unit (s := S128x4096) ![0, 0] S128x4096.size inb_S128x4096_S128x4096_0_0).toLoadRect (View.loadsAt_vmem h_S128x4096))) Φ := by
  simp only [Prog.lift]
  iintro ⟨H, Hk⟩
  iapply (wp_load 𝒱₀ (c : Thread nD τ) none Set.univ (m := (Memref.whole cc0_stg0_0 : Memref sig .tc .vmem S128x4096 .fp8e4m3)) (Finset.subset_univ _)) $$ H; iintro H
  rw [read_x, wp_ret]; imodintro
  iapply Hk; iexact H

theorem load_w (c : Dev nD) (f : (cc0_stg1_0 : Ref sig .tc).ty.Contents (Elt F)) (Φ : Vec F S4096x256 .fp8e4m3 → sProp 𝕄) :
    iprop(pts c cc0_stg1_0 f ∗ (pts c cc0_stg1_0 f -∗ Φ f))
      ⊢ wp frame (wpE (defs₀ (F := F)) 𝒱₀ (c : Thread nD τ) none) Set.univ
          (Prog.lift (.load (Memref.whole cc0_stg1_0 : Memref sig .tc .vmem S4096x256 .fp8e4m3)
            (Rect.unit (s := S4096x256) ![0, 0] S4096x256.size inb_S4096x256_S4096x256_0_0).toLoadRect (View.loadsAt_vmem h_S4096x256))) Φ := by
  simp only [Prog.lift]
  iintro ⟨H, Hk⟩
  iapply (wp_load 𝒱₀ (c : Thread nD τ) none Set.univ (m := (Memref.whole cc0_stg1_0 : Memref sig .tc .vmem S4096x256 .fp8e4m3)) (Finset.subset_univ _)) $$ H; iintro H
  rw [read_w, wp_ret]; imodintro
  iapply Hk; iexact H

/-- The one word of a scale's buffer. -/
theorem word_a (f : (cc0_stg2_0 : Ref sig .tc).ty.Contents (Elt F)) (j) :
    ((Memref.whole cc0_stg2_0 : Memref sig .tc .smem S1 .f32).access (Rect.unit (s := S1) ![0] S1.size inb_S1_S1_0)).read (Elt F) f j
      = f (ix1 0 : S1.Idx) := by
  rw [View.read_apply]
  show f _ = _
  congr 1
  funext a; fin_cases a; exact Subsingleton.elim (α := Fin 1) _ _
theorem word_b (f : (cc0_stg3_0 : Ref sig .tc).ty.Contents (Elt F)) (j) :
    ((Memref.whole cc0_stg3_0 : Memref sig .tc .smem S1 .f32).access (Rect.unit (s := S1) ![0] S1.size inb_S1_S1_0)).read (Elt F) f j
      = f (ix1 0 : S1.Idx) := by
  rw [View.read_apply]
  show f _ = _
  congr 1
  funext a; fin_cases a; exact Subsingleton.elim (α := Fin 1) _ _

theorem load_a (c : Dev nD) (f : (cc0_stg2_0 : Ref sig .tc).ty.Contents (Elt F)) (Φ : Elt F .f32 → sProp 𝕄) :
    iprop(pts c cc0_stg2_0 f ∗ (pts c cc0_stg2_0 f -∗ Φ (f (ix1 0 : S1.Idx))))
      ⊢ wp frame (wpE (defs₀ (F := F)) 𝒱₀ (c : Thread nD τ) none) Set.univ
          (smemLoad (Memref.whole cc0_stg2_0 : Memref sig .tc .smem S1 .f32) (Rect.unit (s := S1) ![0] S1.size inb_S1_S1_0) numel1_S1 rfl) Φ := by
  iintro ⟨H, Hk⟩
  unfold smemLoad
  iapply (wp_smemLoadElt 𝒱₀ (c : Thread nD τ) none Set.univ (m := (Memref.whole cc0_stg2_0 : Memref sig .tc .smem S1 .f32))
    (r := Rect.unit (s := S1) ![0] S1.size inb_S1_S1_0) (Finset.subset_univ _)) $$ H; iintro H
  rw [wp_ret]; imodintro
  rw [word_a]
  iapply Hk; iexact H
theorem load_b (c : Dev nD) (f : (cc0_stg3_0 : Ref sig .tc).ty.Contents (Elt F)) (Φ : Elt F .f32 → sProp 𝕄) :
    iprop(pts c cc0_stg3_0 f ∗ (pts c cc0_stg3_0 f -∗ Φ (f (ix1 0 : S1.Idx))))
      ⊢ wp frame (wpE (defs₀ (F := F)) 𝒱₀ (c : Thread nD τ) none) Set.univ
          (smemLoad (Memref.whole cc0_stg3_0 : Memref sig .tc .smem S1 .f32) (Rect.unit (s := S1) ![0] S1.size inb_S1_S1_0) numel1_S1 rfl) Φ := by
  iintro ⟨H, Hk⟩
  unfold smemLoad
  iapply (wp_smemLoadElt 𝒱₀ (c : Thread nD τ) none Set.univ (m := (Memref.whole cc0_stg3_0 : Memref sig .tc .smem S1 .f32))
    (r := Rect.unit (s := S1) ![0] S1.size inb_S1_S1_0) (Finset.subset_univ _)) $$ H; iintro H
  rw [wp_ret]; imodintro
  rw [word_b]
  iapply Hk; iexact H

/-- The own chunk stored: its pieces, at the gathered contents, in the shares that the first copies and the first product
    take. -/
theorem store_chunk (c : Dev nD) (hx : xg.IsWhole) (f : (cc0_scratch0 : Ref sig .tc).ty.Contents (Elt F)) (k : Prog (TpuEff nD τ sig (Elt F) Λ₀ .tc) PUnit) (Φ : PUnit → sProp 𝕄) :
    iprop(pPts (F := F) c c 0 fullShare f ∗ pPts (F := F) c c 1 fullShare f
        ∗ (((sndPay m ρ c (.inl (0, 0)) ∗ sndPay m ρ c (.inr (0, 0)) ∗ gPts m ρ c c 0 fullShare.right.right)
          ∗ sndPay m ρ c (.inl (1, 0)) ∗ sndPay m ρ c (.inr (1, 0)) ∗ gPts m ρ c c 1 fullShare.right.right) -∗ wp frame (wpE (defs₀ (F := F)) 𝒱₀ (c : Thread nD τ) none) Set.univ k Φ))
      ⊢ wp frame (wpE (defs₀ (F := F)) 𝒱₀ (c : Thread nD τ) none) Set.univ
          (Prog.lift (.load xg (Rect.unit (s := S32x128x4096) (k0_off1 c) S1x128x4096.size (k0_off1_inb c)).toLoadRect (View.loadsAt_vmem h_S1x128x4096))
            >>= fun _ : Vec F S1x128x4096 .fp8e4m3 =>
              Prog.lift (.store xg (Rect.unit (s := S32x128x4096) (k0_off1 c) S1x128x4096.size (k0_off1_inb c)) (chunk m ρ c) Finset.univ
                (View.stores_vmem h_S1x128x4096 (hx.storeExact_slice rfl _ (k0_off1_packedfp8e4m3 c)) (fun _ => rfl)) (.inl rfl)) >>= fun _ => k) Φ := by
  simp only [Prog.lift, Prog.bind_op, Prog.bind_ret]
  unfold pPts
  iintro ⟨H0, H1, Hk⟩
  ihave Hc := (pointsTo_union (halves_disj c) (ℓ := xg.view.loc (c : Thread nD τ)) (q := fullShare) (f := f)).2 $$ [H0 H1]
  · isplitl [H0] <;> iassumption
  have hs := chunk_acc_set c (k0_off1 c) (k0_off1_inb c) (k0_off1_eq c)
  iapply (wp_load_rect 𝒱₀ (c : Thread nD τ) none Set.univ (m := xg) (r := Rect.unit (s := S32x128x4096) (k0_off1 c) S1x128x4096.size (k0_off1_inb c))
    (S := cset c) (q := fullShare) (f := f) (by rw [hs])) $$ Hc
  iintro Hc
  iapply (wp_store 𝒱₀ (c : Thread nD τ) none Set.univ (m := xg) (r := Rect.unit (s := S32x128x4096) (k0_off1 c) S1x128x4096.size (k0_off1_inb c))
    (Mk := Finset.univ) (S := cset c) (by rw [View.setOn_univ, hs])) $$ Hc
  iintro Hc
  iapply Hk
  iapply (own_split m ρ c _ (chunk_write m ρ c (k0_off1 c) (k0_off1_inb c) (k0_off1_eq c) f))
  iexact Hc

/-- The weights converted and stored. -/
theorem store_w (c : Dev nD) (hw : wM.IsWhole) (f : (cc0_scratch1 : Ref sig .tc).ty.Contents (Elt F)) (k : Prog (TpuEff nD τ sig (Elt F) Λ₀ .tc) PUnit) (Φ : PUnit → sProp 𝕄) :
    iprop(pts c cc0_scratch1 f ∗ (wSt m ρ c -∗ wp frame (wpE (defs₀ (F := F)) 𝒱₀ (c : Thread nD τ) none) Set.univ k Φ))
      ⊢ wp frame (wpE (defs₀ (F := F)) 𝒱₀ (c : Thread nD τ) none) Set.univ
          (Prog.lift (.load wM (Rect.unit (s := S4096x256) ![0, 0] S4096x256.size inb_S4096x256_S4096x256_0_0).toLoadRect (View.loadsAt_vmem h_S4096x256))
            >>= fun _ : Vec F S4096x256 .bf16 =>
              Prog.lift (.store wM (Rect.unit (s := S4096x256) ![0, 0] S4096x256.size inb_S4096x256_S4096x256_0_0) (wb m ρ c) Finset.univ
                (View.stores_vmem h_S4096x256 (hw.storeExact_slice rfl _ packedbf16_S4096x256_S4096x256_0_0) (fun _ => rfl)) (.inl rfl)) >>= fun _ => k) Φ := by
  simp only [Prog.lift, Prog.bind_op, Prog.bind_ret]
  iintro ⟨H, Hk⟩
  iapply (wp_load 𝒱₀ (c : Thread nD τ) none Set.univ (m := wM) (Finset.subset_univ _)) $$ H; iintro H
  iapply (wp_store 𝒱₀ (c : Thread nD τ) none Set.univ (m := wM)
    (r := Rect.unit (s := S4096x256) ![0, 0] S4096x256.size inb_S4096x256_S4096x256_0_0) (Mk := Finset.univ) (Finset.subset_univ _)) $$ H; iintro H
  rw [write_w]
  iapply Hk
  unfold wSt
  iexact H

end Cert.KernelIdeal.Ring
-- ==== Proof.Body.lean ====
/- The body of the kernel on one device, from its start to its end. -/
module

public import proofs.«01_k».proof.Proof.Head

@[expose] public section

noncomputable section

namespace Cert.KernelIdeal.Ring

open Cert.KernelIdeal.Gen Cert.KernelIdeal.Plan
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- Where a device stands on its own semaphores. -/
def poss (c : Dev nD) : sProp 𝕄 :=
  iprop(atPos ER (barCell c) 0 ∅ 0 ∗ bigSep Finset.univ fun t : T => iprop(atPos ER (sndCell c t) 0 ∅ 0 ∗ atPos ER (rcvCell c t) 0 ∅ 0))
/-- The right to pay what it pays: its neighbours' barriers, and for each copy the two semaphores it signals. -/
def payToks (c : Dev nD) : sProp 𝕄 :=
  iprop((dutyTok ER (barCell (lt c)) 0 true ∗ dutyTok ER (barCell (rt c)) 0 false)
    ∗ bigSep Finset.univ fun t : T => iprop(dutyTok ER (sndCell c t) 0 false ∗ dutyTok ER (rcvCell (dstOf c t) t) 0 false))
/-- What will come to it: two units at its barrier, and every landing. -/
def income (c : Dev nD) : sProp 𝕄 :=
  iprop(cred (tallyAt (barCell c) () 2) ∗ bigSep Finset.univ fun t : T => cred (tallyAt (rcvCell c t) () N))
/-- What a device's body starts from. -/
def start (c : Dev nD) : sProp 𝕄 :=
  iprop((∃ K, records m ρ K ∗ poss (F := F) c ∗ payToks (F := F) c) ∗ income (F := F) c ∗ levAts L lv)

/-- All copies before they start. -/
theorem lanes_intro (c : Dev nD) :
    iprop((bigSep Finset.univ fun t : T => iprop(atPos ER (sndCell c t) 0 ∅ 0 ∗ atPos ER (rcvCell c t) 0 ∅ 0))
        ∗ (bigSep Finset.univ fun t : T => cred (tallyAt (rcvCell c t) () N))
        ∗ (bigSep Finset.univ fun t : T => iprop(dutyTok ER (sndCell c t) 0 false ∗ dutyTok ER (rcvCell (dstOf c t) t) 0 false))
        ∗ bigSep Finset.univ fun t : T => slot (F := F) c t)
      ⊢ lanes m ρ c (cnt 0 0 0 0) := by
  rw [← bigSep_sep', ← bigSep_sep', ← bigSep_sep']
  unfold lanes
  refine bigSep_mono fun t _ => ?_
  rw [st_pend m ρ c t (by rcases t with ⟨b, h⟩ | ⟨b, h⟩ <;> fin_cases b <;> exact Nat.zero_le _)]
  show iprop((atPos ER (sndCell c t) 0 ∅ 0 ∗ atPos ER (rcvCell c t) 0 ∅ 0) ∗ cred (tallyAt (rcvCell c t) () N)
    ∗ (dutyTok ER (sndCell c t) 0 false ∗ dutyTok ER (rcvCell (dstOf c t) t) 0 false) ∗ slot (F := F) c t) ⊢ pend (F := F) c t
  unfold pend sendTok
  iintro ⟨⟨A1, A2⟩, A3, ⟨A4, A5⟩, A6⟩
  isplitl [A1]; · iexact A1
  isplitl [A2]; · iexact A2
  isplitl [A3]; · iexact A3
  isplitl [A4]; · iexact A4
  isplitl [A5] <;> iassumption

theorem todo_zero : todo (cnt 0 0 0 0) = Finset.univ := by
  refine Finset.eq_univ_of_forall fun t => (mem_todo _ t).mpr ?_
  rcases t with ⟨b, h⟩ | ⟨b, h⟩ <;> fin_cases b <;> exact Nat.zero_le _

theorem near_zero (c : Dev nD) : insert c ∅ = near c 0 := by
  ext o
  rw [Finset.mem_insert, near, Finset.mem_filter]
  have ho := dev_lt o; have hc := dev_lt c
  rw [show o = c ↔ o.val = c.val from Fin.ext_iff]
  constructor
  · rintro (h | h)
    · exact ⟨Finset.mem_univ _, by omega⟩
    · exact absurd h (Finset.notMem_empty _)
  · rintro ⟨-, h⟩
    exact Or.inl (by omega)

/-- What a device holds at the end of its body. -/
def fin (c : Dev nD) : sProp 𝕄 :=
  iprop(pts c cc0_scratch0 (gath m ρ) ∗ pts c cc0_scratch1 (wb m ρ c)
    ∗ (bigSep Finset.univ fun t : T => shut (F := F) c t) ∗ semVal (barCell c) 0)

variable (K : Dev nD × KC → ℕ)

set_option maxHeartbeats 1000000 in
/-- The body on device `c`. -/
theorem body_run (c : Dev nD) (hx : xg.IsWhole) (hw : wM.IsWhole) (W : Waits sig Unit)
    (g0 : (cc0_scratch0 : Ref sig .tc).ty.Contents (Elt F)) (g1 : (cc0_scratch1 : Ref sig .tc).ty.Contents (Elt F))
    (g4 : (cc0_stg4_0 : Ref sig .tc).ty.Contents (Elt F)) (Φ : PUnit → sProp 𝕄) :
    iprop(records m ρ K ∗ levAts L lv ∗ poss (F := F) c ∗ payToks (F := F) c ∗ income (F := F) c ∗ owes (c : Thread nD τ) (O₀ c) W
        ∗ pts c cc0_scratch0 g0 ∗ pts c cc0_scratch1 g1
        ∗ pts c cc0_stg0_0 (xstg m ρ c) ∗ pts c cc0_stg1_0 (wstg m ρ c) ∗ pts c cc0_stg2_0 (astg m ρ c) ∗ pts c cc0_stg3_0 (bstg m ρ c)
        ∗ pts c cc0_stg4_0 g4
        ∗ ((fin m ρ c ∗ (∃ W', owes (c : Thread nD τ) 0 W')
          ∗ pts c cc0_stg0_0 (xstg m ρ c) ∗ pts c cc0_stg1_0 (wstg m ρ c) ∗ pts c cc0_stg2_0 (astg m ρ c) ∗ pts c cc0_stg3_0 (bstg m ρ c)
          ∗ pts c cc0_stg4_0 (outAt m ρ c)) -∗ Φ ⟨⟩))
      ⊢ wp frame (wpE (defs₀ (F := F)) 𝒱₀ (c : Thread nD τ) none) Set.univ
          (Plan.body (F := F) (Memref.whole cc0_stg0_0) (Memref.whole cc0_stg1_0) (Memref.whole cc0_stg2_0) (Memref.whole cc0_stg3_0) oM
            xg hx wM hw cc0_scratch2 cc0_scratch3 cc0_scratch4 cc0_scratch5) Φ := by
  unfold Plan.body poss payToks income
  iintro ⟨#HR, #Hlev, ⟨HaB, Hat⟩, ⟨⟨HtL, HtR⟩, Htok⟩, ⟨HcB, Hcr⟩, HO, Hs0, Hs1, Hx, Hw, Ha, Hb, Ho, Hk⟩
  rw [wp_bind]
  iapply (id_step (F := F) c)
  beta_reduce
  ihave Hp := (Entails.of_eq ((scr_pieces c g0).trans (by rw [by_dir]))) $$ Hs0
  icases Hp with ⟨⟨Hp0, Hp1⟩, HpL, HpR⟩
  ihave HpL := (give_lt c g0) $$ HpL
  ihave HpR := (give_rt c g0) $$ HpR
  rw [wp_bind]
  iapply (signal_lt m ρ K c W)
  isplitr; · iexact HR
  isplitl [HO]; · iexact HO
  isplitl [HtL]; · iexact HtL
  isplitl [HpL]; · iexact HpL
  iintro HO
  rw [wp_bind]
  iapply (signal_rt m ρ K c W)
  isplitr; · iexact HR
  isplitl [HO]; · iexact HO
  isplitl [HtR]; · iexact HtR
  isplitl [HpR]; · iexact HpR
  iintro HO
  rw [wp_bind]
  iapply (bar_wait m ρ K c W)
  isplitr; · iexact HR
  isplitr; · iexact Hlev
  isplitl [HcB]; · iexact HcB
  isplitl [HO]; · iexact HO
  isplitl [HaB]; · iexact HaB
  iintro ⟨HO, Hsl, HzB⟩
  ihave HL := (lanes_intro m ρ c) $$ [Hat Hcr Htok Hsl]
  · isplitl [Hat]; · iexact Hat
    isplitl [Hcr]; · iexact Hcr
    isplitl [Htok] <;> iassumption
  rw [wp_bind]
  iapply (load_a c (astg m ρ c))
  isplitl [Ha]; · iexact Ha
  iintro Ha
  rw [wp_bind]
  iapply (load_b c (bstg m ρ c))
  isplitl [Hb]; · iexact Hb
  iintro Hb
  rw [wp_bind]
  iapply (load_x c (xstg m ρ c))
  isplitl [Hx]; · iexact Hx
  iintro Hx
  iapply (store_chunk m ρ c hx g0)
  isplitl [Hp0]; · iexact Hp0
  isplitl [Hp1]; · iexact Hp1
  iintro ⟨⟨F0, B0, R0⟩, F1, B1, R1⟩
  rw [wp_bind]
  iapply (sF0_step m ρ K hx c 0 0 0 0)
  isplitr; · iexact HR
  isplitl [F0]; · iexact F0
  isplitl [HL HO]
  · unfold ringSt
    isplitl [HL]; · iexact HL
    rw [show cnt (2 * (0 : Fin 16).val) 0 0 0 = cnt 0 0 0 0 from rfl, todo_zero]
    iexact HO
  iintro HL
  rw [wp_bind]
  iapply (sB0_step m ρ K hx c 1 0 0 0)
  isplitr; · iexact HR
  isplitl [B0]; · iexact B0
  isplitl [HL]; · iexact HL
  iintro HL
  rw [wp_bind]
  iapply (sF1_step m ρ K hx c 1 1 0 0)
  isplitr; · iexact HR
  isplitl [F1]; · iexact F1
  isplitl [HL]; · iexact HL
  iintro HL
  rw [wp_bind]
  iapply (sB1_step m ρ K hx c 1 1 1 0)
  isplitr; · iexact HR
  isplitl [B1]; · iexact B1
  isplitl [HL]; · iexact HL
  iintro HL
  rw [wp_bind]
  iapply (load_w c (wstg m ρ c))
  isplitl [Hw]; · iexact Hw
  iintro Hw
  iapply (store_w m ρ c hw g1)
  isplitl [Hs1]; · iexact Hs1
  iintro Hs1
  rw [wp_bind]
  iapply (gemm_step m ρ c c fullShare.right.right ∅ (k0_off1 c) (k0_off1_inb c) (k0_off1_eq c) (k0_off6 c) (k0_off6_inb c) (k0_off6_eq c))
  isplitl [R0]; · iexact R0
  isplitl [R1]; · iexact R1
  isplitl [Hs1]; · iexact Hs1
  isplitl [Ho]
  · unfold outSt
    iexists g4
    isplitr; · ipureintro; exact fun i o ho => absurd ho (Finset.notMem_empty _)
    iexact Ho
  rw [near_zero]
  iintro ⟨R0, R1, Hs1, Ho⟩
  iapply (hops_step m ρ K hx c iprop((gPts m ρ c c 0 fullShare.right.right ∗ gPts m ρ c c 1 fullShare.right.right)
      ∗ (semVal (barCell c) 0 ∗ pts c cc0_stg0_0 (xstg m ρ c) ∗ pts c cc0_stg1_0 (wstg m ρ c) ∗ pts c cc0_stg2_0 (astg m ρ c) ∗ pts c cc0_stg3_0 (bstg m ρ c))
      ∗ ((fin m ρ c ∗ (∃ W', owes (c : Thread nD τ) 0 W')
          ∗ pts c cc0_stg0_0 (xstg m ρ c) ∗ pts c cc0_stg1_0 (wstg m ρ c) ∗ pts c cc0_stg2_0 (astg m ρ c) ∗ pts c cc0_stg3_0 (bstg m ρ c)
          ∗ pts c cc0_stg4_0 (outAt m ρ c)) -∗ Φ ⟨⟩)) _ Φ ?_ 14 0 rfl)
  · iintro ⟨#HR, #Hlev, HLI, ⟨R0, R1⟩, ⟨HzB, Hx, Hw, Ha, Hb⟩, Hk⟩
    iapply (closing_step m ρ K hx c)
    isplitr; · iexact HR
    isplitr; · iexact Hlev
    isplitl [HLI]; · iexact HLI
    unfold endSt ringSt
    rw [todo_end]
    iintro ⟨⟨HL, HO⟩, Hs1, Ho, Hlast⟩
    ihave Hj := (rejoin m ρ c) $$ [HL Hlast R0 R1]
    · isplitl [HL]; · iexact HL
      isplitl [Hlast]; · iexact Hlast
      isplitl [R0] <;> iassumption
    icases Hj with ⟨Hs0, Hshut⟩
    ihave Ho := (outSt_all m ρ c) $$ Ho
    iapply Hk
    unfold fin
    isplitl [Hs0 Hs1 Hshut HzB]
    · isplitl [Hs0]; · iexact Hs0
      isplitl [Hs1]; · unfold wSt; iexact Hs1
      isplitl [Hshut] <;> iassumption
    isplitl [HO]
    · unfold owesE; rw [Oof_empty]; iexact HO
    isplitl [Hx]; · iexact Hx
    isplitl [Hw]; · iexact Hw
    isplitl [Ha]; · iexact Ha
    isplitl [Hb]; · iexact Hb
    iexact Ho
  · isplitr; · iexact HR
    isplitr; · iexact Hlev
    isplitl [HL Hs1 Ho]
    · unfold LI
      isplitl [HL]; · iexact HL
      isplitl [Hs1] <;> iassumption
    isplitl [R0 R1]
    · isplitl [R0] <;> iassumption
    isplitr [Hk]; swap; · iexact Hk
    isplitl [HzB]; · iexact HzB
    isplitl [Hx]; · iexact Hx
    isplitl [Hw]; · iexact Hw
    isplitl [Ha] <;> iassumption

end Cert.KernelIdeal.Ring
-- ==== Proof.Dats.lean ====
/- The body as the launch asks for it: what the windows hold before and after, and the obligation on the body. -/
module

public import proofs.«01_k».proof.Proof.Body

@[expose] public section

noncomputable section

namespace Cert.KernelIdeal.Ring

open Cert.KernelIdeal.Gen Cert.KernelIdeal.Plan
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Before the body: its start and the two scratch buffers at whatever they hold. -/
def Φ₀ (c : Dev nD) : sProp 𝕄 := iprop(start m ρ c ∗ (∃ f, pts (F := F) c cc0_scratch0 f) ∗ ∃ f, pts (F := F) c cc0_scratch1 f)

/-- The windows of device `c`: the four operands as they were, the result computed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => astg m ρ c
    | ⟨3, _⟩ => bstg m ρ c
    | ⟨4, _⟩ => outAt m ρ c
  Φ t := match t with
    | ⟨0, _⟩ => Φ₀ m ρ c
    | ⟨_ + 1, _⟩ => fin m ρ c
  q _ := fullShare
  owed t := match t with
    | ⟨0, _⟩ => O₀ c
    | ⟨_ + 1, _⟩ => 0

theorem bigSep_W (Φ : Fin cfg0.W → sProp 𝕄) : bigSep Finset.univ Φ
    = iprop(Φ (0 : Fin 5) ∗ Φ (1 : Fin 5) ∗ Φ (2 : Fin 5) ∗ Φ (3 : Fin 5) ∗ Φ (4 : Fin 5)) := bigSep_W0 Φ

theorem fetch_0 (t : Fin cfg0.N) : (cfg0.win (0 : Fin 5)).fetch t = true := by rw [fin_N t]; rfl
theorem fetch_1 (t : Fin cfg0.N) : (cfg0.win (1 : Fin 5)).fetch t = true := by rw [fin_N t]; rfl
theorem fetch_2 (t : Fin cfg0.N) : (cfg0.win (2 : Fin 5)).fetch t = true := by rw [fin_N t]; rfl
theorem fetch_3 (t : Fin cfg0.N) : (cfg0.win (3 : Fin 5)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : b.ty.Contents (Elt F), ⌜f = X⌝ ∗ pts (F := F) c b f) := by
  unfold owns; simp only [Memref.view_whole, View.read_whole, View.set_whole]

abbrev stg (c : Dev nD) (b : Ref sig .tc) (X : b.ty.Contents (Elt F)) : sProp 𝕄 :=
  iprop(∃ f : b.ty.Contents (Elt F), ⌜f = X⌝ ∗ pts (F := F) c b f)

def bodyPre (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop(fin m ρ c ∗ (dats m ρ 0 c).owesAt () t₀.succ ∗ stg c cc0_stg0_0 (xstg m ρ c) ∗ stg c cc0_stg1_0 (wstg m ρ c)
    ∗ stg c cc0_stg2_0 (astg m ρ c) ∗ stg c cc0_stg3_0 (bstg m ρ c) ∗ stg c cc0_stg4_0 (outAt m ρ c))

theorem stg_intro (c : Dev nD) (b : Ref sig .tc) (X : b.ty.Contents (Elt F)) : pts (F := F) c b X ⊢ stg c b X := by
  iintro H; iexists X; isplitr; · (ipureintro; rfl)
  iexact H

set_option maxRecDepth 4000 in
theorem sound_body (c : Dev nD) : bodyPre m ρ c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_scratch0) (Memref.isWhole_whole _)
      (Memref.whole cc0_scratch1) (Memref.isWhole_whole _) cc0_scratch2 cc0_scratch3 cc0_scratch4 cc0_scratch5) (fun _ => bodyPost m ρ c) := by
  rw [body_eq]
  unfold bodyPre Φ₀ start Dat.owesAt Pipeline.owesWithin
  iintro ⟨⟨⟨⟨%K, HR, Hp, Ht⟩, Hi, Hlev⟩, ⟨%g0, Hs0⟩, ⟨%g1, Hs1⟩⟩, ⟨%W, %hW, HO⟩,
    ⟨%d0, %f0, %h0, Hx⟩, ⟨%d1, %f1, %h1, Hw⟩, ⟨%d2, %f2, %h2, Ha⟩, ⟨%d3, %f3, %h3, Hb⟩, ⟨%d4, %f4, %h4, Ho⟩⟩
  have e0 : f0 = xstg m ρ c := by rw [h0]; unfold Dat.before; rw [if_pos (fetch_0 t₀)]; rfl
  have e1 : f1 = wstg m ρ c := by rw [h1]; unfold Dat.before; rw [if_pos (fetch_1 t₀)]; rfl
  have e2 : f2 = astg m ρ c := by rw [h2]; unfold Dat.before; rw [if_pos (fetch_2 t₀)]; rfl
  have e3 : f3 = bstg m ρ c := by rw [h3]; unfold Dat.before; rw [if_pos (fetch_3 t₀)]; rfl
  subst e0 e1 e2 e3
  rw [show (dats m ρ 0 c).owed t₀.castSucc = O₀ c from rfl]
  iapply (body_run m ρ K c (Memref.isWhole_whole _) (Memref.isWhole_whole _) W g0 g1 f4)
  isplitl [HR]; · iexact HR
  isplitl [Hlev]; · iexact Hlev
  isplitl [Hp]; · iexact Hp
  isplitl [Ht]; · iexact Ht
  isplitl [Hi]; · iexact Hi
  isplitl [HO]; · iexact HO
  isplitl [Hs0]; · iexact Hs0
  isplitl [Hs1]; · iexact Hs1
  isplitl [Hx]; · iexact Hx
  isplitl [Hw]; · iexact Hw
  isplitl [Ha]; · iexact Ha
  isplitl [Hb]; · iexact Hb
  isplitl [Ho]; · iexact Ho
  iintro ⟨Hf, ⟨%W', HO⟩, Hx, Hw, Ha, Hb, Ho⟩
  unfold bodyPost Dat.owesAt Pipeline.owesWithin
  rw [show (dats m ρ 0 c).owed t₀.succ = 0 from rfl]
  isplitl [Hf]; · iexact Hf
  isplitl [HO]
  · iexists W'
    isplitr; · ipureintro; exact fun _ _ => Or.inl trivial
    iexact HO
  isplitl [Hx]; · iapply (stg_intro (F := F) c); iexact Hx
  isplitl [Hw]; · iapply (stg_intro (F := F) c); iexact Hw
  isplitl [Ha]; · iapply (stg_intro (F := F) c); iexact Ha
  isplitl [Hb]; · iapply (stg_intro (F := F) c); iexact Hb
  iapply (stg_intro (F := F) c); iexact Ho

set_option maxRecDepth 20000 in
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

end Cert.KernelIdeal.Ring
-- ==== Proof.Launch.lean ====
/- The launch: what every device starts from is made of the launch's semaphores and of the protocol's records, and the
   whole program runs to its end. -/
module

public import proofs.«01_k».proof.Proof.Dats
public import Idealize.ShloMosaic.Lib.Pipeline.CollectiveSegs

@[expose] public section

noncomputable section

namespace Cert.KernelIdeal.Ring

open Cert.KernelIdeal.Gen Cert.KernelIdeal.Plan
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## The ring's semaphores -/

/-- A device's own semaphores beside the barrier's: two for each copy. -/
abbrev osem : T ⊕ T → SemLoc sig := fun x => .dma (sOf x)

theorem sOf_ge (x : T ⊕ T) : 5 ≤ (sOf x).val := by
  rcases x with t | t
  · exact (sSv_ge t).trans (le_of_eq (sS_val t).symm)
  · exact (sRv_ge t).trans (le_of_eq (sR_val t).symm)
theorem stage_lt (w : Fin 5) (s : Fin (spec0 w).nbuf) : ((spec0 w).sem s).val < 5 := by revert s; fin_cases w <;> decide

theorem scoped_all : ∀ q : DmaSem sig, (SemLoc.dma q : SemLoc sig).isScoped .tc = true := by decide

theorem ownSemFacts : Pipeline.OwnSemFacts cfg0.spec osem where
  isScoped x := scoped_all _
  inj x y h := sOf_inj (SemLoc.dma.inj h)
  disj x w s h := by
    have h1 := sOf_ge x
    have h2 := stage_lt w s
    rw [SemLoc.dma.inj h] at h1
    exact absurd h1 (Nat.not_le.mpr h2)

theorem share_eq (c : Dev nD) (w : Fin cfg0.W) : (dats m ρ 0 c).share w = fullShare := by unfold Dat.share; split <;> rfl

theorem kcell_injective : Function.Injective (kcell : Dev nD × KC → GSem nD τ sig) := by
  rintro ⟨c, k⟩ ⟨c', k'⟩ h
  have h1 : c = c' := by have := congrArg (fun g : GSem nD τ sig => g.1.1) h; exact this
  subst h1
  have h2 := congrArg Prod.snd h
  rcases k with _ | x <;> rcases k' with _ | x'
  · rfl
  · exact absurd h2.symm (dma_ne_bar _)
  · exact absurd h2 (dma_ne_bar _)
  · rw [sOf_inj (SemLoc.dma.inj h2)]
def ringCells : Finset (GSem nD τ sig) := Finset.univ.map ⟨kcell, kcell_injective⟩

/-- The payments: two at a barrier, one at each semaphore of a copy. -/
abbrev TK : Type := Bool ⊕ (T ⊕ T)
def tokOf (cj : Dev nD × TK) : GSem nD τ sig × ℕ × Bool := match cj.2 with
  | .inl d => (barCell cj.1, 0, d) | .inr x => (((cj.1 : Thread nD τ), .dma (sOf x)), 0, false)
theorem tokOf_injective : Function.Injective (tokOf : Dev nD × TK → GSem nD τ sig × ℕ × Bool) := by
  rintro ⟨c, j⟩ ⟨c', j'⟩ h
  have h1 : c = c' := by
    have := congrArg (fun x : GSem nD τ sig × ℕ × Bool => x.1.1.1) h
    rcases j with d | x <;> rcases j' with d' | x' <;> exact this
  subst h1
  have h2 := congrArg (fun x : GSem nD τ sig × ℕ × Bool => x.1.2) h
  rcases j with d | x <;> rcases j' with d' | x'
  · have h3 : d = d' := congrArg (fun x : GSem nD τ sig × ℕ × Bool => x.2.2) h
    rw [h3]
  · exact absurd h2.symm (dma_ne_bar _)
  · exact absurd h2 (dma_ne_bar _)
  · rw [sOf_inj (SemLoc.dma.inj h2)]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The payments at device `c`'s own semaphores. -/
def toks (c : Dev nD) : sProp 𝕄 :=
  iprop((dutyTok ER (barCell c) 0 false ∗ dutyTok ER (barCell c) 0 true)
    ∗ (bigSep Finset.univ fun t : T => dutyTok ER (sndCell c t) 0 false) ∗ bigSep Finset.univ fun t : T => dutyTok ER (rcvCell c t) 0 false)

/-- What the launch deals device `c`, and what becomes of it once all semaphores follow the protocol. -/
def G (c : Dev nD) : sProp 𝕄 :=
  iprop((bigSep Finset.univ fun k : KC => roundState ER (ringRd m ρ) (kcell (c, k)) 0)
    ∗ ((bigSep Finset.univ fun k : KC => atPos ER (kcell (c, k)) 0 ∅ 0) ∗ bigSep Finset.univ fun k : KC => reached ER (kcell (c, k)) 0) ∗ toks (F := F) c)
def G' (c : Dev nD) : sProp 𝕄 := iprop(∃ K, records m ρ K ∗ poss (F := F) c ∗ payToks (F := F) c)

/-- Over the ring's semaphores on one device: the barrier's, then the copies'. -/
theorem bigSep_KC (Φ : KC → sProp 𝕄) : bigSep Finset.univ Φ
    = iprop(Φ none ∗ (bigSep Finset.univ fun t : T => Φ (some (.inl t))) ∗ bigSep Finset.univ fun t : T => Φ (some (.inr t))) := by
  have h : bigSep Finset.univ (fun x : T ⊕ T => Φ (some x))
      = iprop((bigSep Finset.univ fun t : T => Φ (some (.inl t))) ∗ bigSep Finset.univ fun t : T => Φ (some (.inr t))) := bigSep_univ_sum _
  rw [← h, bigSep_univ_equiv (Equiv.optionEquivSumPUnit.{0, 0} (T ⊕ T)).symm Φ, bigSep_univ_sum]
  rw [show (bigSep Finset.univ fun b : PUnit.{1} => Φ ((Equiv.optionEquivSumPUnit.{0, 0} (T ⊕ T)).symm (.inr b))) = Φ none from by
    rw [Finset.univ_unique, bigSep_singleton]; rfl]
  exact equiv_iff.mp ⟨BI.sep_comm, BI.sep_comm⟩

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : KC => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    refine bigSep_congr fun c _ => ?_
    unfold toks
    rw [bigSep_univ_sum, bigSep_univ_sum, bigSep_univ_eq_bigSepL [false, true] (by decide) (by decide), bigSepL_cons_cons, bigSepL_singleton]
    rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun t : T => semVal (sndCell c t) 0) ∗ bigSep Finset.univ fun t : T => semVal (rcvCell c t) 0) := by
  unfold Pipeline.ownSems0
  exact bigSep_univ_sum _
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : KC => semVal (kcell (c, k)) 0 : sProp 𝕄) := by
  rw [ownSems0_eq, unscopedSems0_eq, bigSep_KC]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : KC => iprop(∃ κ : ℕ, cellInv ER (ringRd m ρ) κ (kcell (c, k))))
          ∗ ((bigSep Finset.univ fun k : KC => atPos ER (kcell (c, k)) 0 ∅ 0) ∗ bigSep Finset.univ fun k : KC => reached ER (kcell (c, k)) 0)
          ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : KC => semVal (kcell (c, k)) 0) ∗ bigSep Finset.univ fun k : KC => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The ring of devices. -/
def ring : Dev nD ≃ Dev nD := ⟨rt, lt, lt_rt, rt_lt⟩

/-- Each payment goes to the device that makes it: of a barrier to the two neighbours, of a landing to the sender. -/
theorem toks_around : (bigSep Finset.univ fun c : Dev nD => toks (F := F) c) ⊢ bigSep Finset.univ fun c : Dev nD => payToks (F := F) c := by
  have hr : (bigSep Finset.univ fun c : Dev nD => bigSep Finset.univ fun t : T => (dutyTok ER (rcvCell c t) 0 false : sProp 𝕄))
      = bigSep Finset.univ fun c : Dev nD => bigSep Finset.univ fun t : T => dutyTok ER (rcvCell (dstOf c t) t) 0 false := by
    rw [bigSep_congr (fun c _ => by_dir (F := F) (fun t : T => dutyTok ER (rcvCell c t) 0 false)),
      bigSep_congr (fun c _ => by_dir (F := F) (fun t : T => dutyTok ER (rcvCell (dstOf c t) t) 0 false)), bigSep_sep', bigSep_sep',
      bigSep_univ_equiv ring (fun c : Dev nD => bigSep Finset.univ fun p : Fin 2 × Fin 16 => (dutyTok ER (rcvCell c (.inl p)) 0 false : sProp 𝕄)),
      bigSep_univ_equiv ring.symm (fun c : Dev nD => bigSep Finset.univ fun p : Fin 2 × Fin 15 => (dutyTok ER (rcvCell c (.inr p)) 0 false : sProp 𝕄))]
    rfl
  unfold toks payToks
  simp only [bigSep_sep']
  rw [hr, bigSep_univ_equiv ring (fun c : Dev nD => (dutyTok ER (barCell c) 0 false : sProp 𝕄)),
    bigSep_univ_equiv ring.symm (fun c : Dev nD => (dutyTok ER (barCell c) 0 true : sProp 𝕄))]
  iintro ⟨⟨H1, H2⟩, H3, H4⟩
  isplitl [H1 H2]
  · isplitl [H2]; · iexact H2
    iexact H1
  isplitl [H3]; · iexact H3
  iexact H4

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem poss_eq (c : Dev nD) : (bigSep Finset.univ fun k : KC => (atPos ER (kcell (c, k)) 0 ∅ 0 : sProp 𝕄)) = poss (F := F) c := by
  rw [bigSep_KC]; unfold poss; rw [bigSep_sep']; rfl

theorem regroup :
    (bigSep Finset.univ fun c : Dev nD => iprop((bigSep Finset.univ fun k : KC => iprop(∃ κ : ℕ, cellInv ER (ringRd m ρ) κ (kcell (c, k))))
          ∗ ((bigSep Finset.univ fun k : KC => atPos ER (kcell (c, k)) 0 ∅ 0) ∗ bigSep Finset.univ fun k : KC => reached ER (kcell (c, k)) 0)
          ∗ toks (F := F) c) : sProp 𝕄)
      ⊢ bigSep Finset.univ (G' m ρ) := by
  rw [bigSep_sep', bigSep_sep', bigSep_sep', ← bigSep_univ_prod (fun ck : Dev nD × KC => iprop(∃ κ : ℕ, cellInv ER (ringRd m ρ) κ (kcell ck))),
    ← bigSep_univ_prod (fun ck : Dev nD × KC => (reached ER (kcell ck) 0 : sProp 𝕄)), bigSep_congr (fun c _ => poss_eq (F := F) c)]
  iintro ⟨HI, ⟨Hat, #HR⟩, Htok⟩
  ihave HK := (BI.bigSep_exists_pi Finset.univ (fun (ck : Dev nD × KC) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) (Φ := fun c : Dev nD => iprop(poss (F := F) c ∗ payToks (F := F) c)) fun c _ =>
    show iprop(records m ρ K ∗ poss (F := F) c ∗ payToks (F := F) c) ⊢ G' m ρ c from by
      unfold G'; iintro H; iexists K; iexact H)
  isplitr
  · unfold records; isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What comes to a device -/

theorem bar_eq_iff {a b : Dev nD} : Iff (barCell a = barCell b) (a = b) :=
  ⟨fun h => Fin.ext (congrArg (fun g : GSem nD τ sig => g.1.1.val) h), fun h => h ▸ rfl⟩
theorem rcv_eq {a b : Dev nD} {t s : T} (h : rcvCell a t = rcvCell b s) : a = b ∧ t = s :=
  ⟨Fin.ext (congrArg (fun g : GSem nD τ sig => g.1.1.val) h), sR_inj (SemLoc.dma.inj (congrArg Prod.snd h))⟩

theorem Oof_bar (d c : Dev nD) (S : Finset T) : Oof d S (barCell c) () = 0 := by
  by_contra h
  obtain ⟨t, -, e⟩ := Oof_pos (Nat.pos_of_ne_zero h)
  exact dma_ne_bar _ (congrArg Prod.snd e).symm

theorem owed_bar (d c : Dev nD) : O₀ d (barCell c) () = (if d = lt c then 1 else 0) + (if d = rt c then 1 else 0) := by
  unfold O₀ O₁
  rw [Pi.add_apply, Finsupp.add_apply, Pi.add_apply, Finsupp.add_apply, Oof_bar, tallyAt_apply, tallyAt_apply, Nat.zero_add]
  congr 1
  · by_cases h : d = lt c
    · subst h; rw [rt_lt, if_pos ⟨rfl, rfl⟩, if_pos rfl]
    · rw [if_neg (fun ⟨h1, _⟩ => h (by rw [bar_eq_iff.mp h1, lt_rt])), if_neg h]
  · by_cases h : d = rt c
    · subst h; rw [lt_rt, if_pos ⟨rfl, rfl⟩, if_pos rfl]
    · rw [if_neg (fun ⟨h1, _⟩ => h (by rw [bar_eq_iff.mp h1, rt_lt])), if_neg h]

theorem owed_rcv (d c : Dev nD) (t : T) : O₀ d (rcvCell c t) () = if d = srcOf c t then N else 0 := by
  unfold O₀ O₁
  rw [Pi.add_apply, Finsupp.add_apply, Pi.add_apply, Finsupp.add_apply,
    tallyAt_ne_cell (fun h => dma_ne_bar _ (congrArg Prod.snd h)), tallyAt_ne_cell (fun h => dma_ne_bar _ (congrArg Prod.snd h)),
    Finsupp.zero_apply, Nat.add_zero, Nat.add_zero, Oof_apply,
    Finset.sum_eq_single t (fun s _ hs => by rw [tallyAt_apply, if_neg fun h => hs (rcv_eq h.1).2.symm]) (fun h => absurd (Finset.mem_univ t) h),
    tallyAt_apply]
  by_cases h : d = srcOf c t
  · subst h; rw [dst_src, if_pos ⟨rfl, rfl⟩, if_pos rfl]
  · rw [if_neg (fun ⟨h1, _⟩ => h (by rw [(rcv_eq h1).1, src_dst])), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lt c) fun _ => 1, Finset.sum_ite_eq' Finset.univ (rt c) fun _ => 1, if_pos (Finset.mem_univ _), if_pos (Finset.mem_univ _)]
theorem launch_rcv (c : Dev nD) (t : T) :
    tallyOn (rcvCell c t) (launchCredit (Pipeline.owing O₀) 0 (rcvCell c t)) = (tallyAt (rcvCell c t) () N : CellTallies nD τ sig Unit) := by
  unfold tallyAt; refine congrArg _ (Finsupp.ext fun u => ?_); cases u
  rw [Pipeline.launchCredit_owing, Finsupp.single_eq_same, Finset.sum_congr rfl fun d _ => owed_rcv d c t, Finset.sum_ite_eq' Finset.univ (srcOf c t) fun _ => N,
    if_pos (Finset.mem_univ _)]

theorem creds (c : Dev nD) : (Pipeline.launchCred O₀ c : sProp 𝕄) ⊢ income (F := F) c := by
  unfold Pipeline.launchCred income
  rw [bigSep_univ_at _ (SemLoc.reg barS), launch_bar]
  refine sep_mono_right ?_
  have hj : Function.Injective (fun t : T => (SemLoc.dma (sR t) : SemLoc sig)) := fun t s h => sR_inj (SemLoc.dma.inj h)
  refine (bigSep_subset (t := Finset.univ.map ⟨_, hj⟩) fun x hx => ?_).trans ?_
  · obtain ⟨t, -, rfl⟩ := Finset.mem_map.mp hx
    exact Finset.mem_erase.mpr ⟨dma_ne_bar _, Finset.mem_univ _⟩
  · rw [bigSep_map]
    exact bigSep_mono fun t _ => Entails.of_eq (congrArg cred (launch_rcv c t))

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩, ⟨%g, Hq⟩⟩
  isplitl [Hs]; · iexact Hs
  isplitl [Hr]
  · iexists f; iexact Hr
  iexists g; iexact Hq

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = fin m ρ c from rfl, scopedRest0_eq, ownSems0_eq, unscopedSems0_eq]
  unfold fin shut
  rw [bigSep_sep']
  iintro ⟨Hr, Hq, ⟨HzS, HzV⟩, HzB⟩
  isplitl [HzB]; · iexact HzB
  isplitl [HzS HzV]
  · isplitl [HzS] <;> iassumption
  isplitl [Hr]
  · iexists (gath m ρ); iexact Hr
  iexists (wb m ρ c : (cc0_scratch1 : Ref sig .tc).ty.Contents (Elt F)); iexact Hq

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_lt w s) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

/-- At the end every device's arrays hold what the windows left there. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- The program on all devices: it ends, with every array as computed and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring
-- ==== Proof.Frames.lean ====
/- The arguments end as they began: the run, read at the four windows that only bring arrays in. -/
module

public import proofs.«01_k».proof.Defs
public import proofs.«01_k».proof.Proof.Launch
public import proofs.«01_k».proof.Proof.Gen.Kernel

@[expose] public section

noncomputable section

namespace Cert.KernelIdeal.Ring

open Cert.KernelIdeal.Gen Cert.KernelIdeal.Plan
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- A window that brings its array in leaves it as it was. -/
theorem kept (c : Dev nD) (w : Fin cfg0.W) (h : (cfg0.win w).isOut = false) : finalA m ρ c w = m ((cfg0.win w).arr.view.loc (c : Thread nD τ)) :=
  (dats m ρ 0 c).arrAt_in w h _

/-- What both frames say, for any floats. -/
theorem quiet : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c 0).trans (kept m ρ c 0 rfl), (h.1 c 1).trans (kept m ρ c 1 rfl),
    (h.1 c 2).trans (kept m ρ c 2 rfl), (h.1 c 3).trans (kept m ρ c 3 rfl)⟩, h.2⟩) (run_main m ρ)

theorem frame_ideal : Cert.quiescent_KernelIdeal := fun m ρ _ => quiet m ρ

/-! ## The kernel as printed

It has the same text as its ideal reading, so the same run is its run. -/

theorem same_bodies : Kernel.defs₀ (F := F) = KernelIdeal.defs₀ (F := F) := by
  unfold Kernel.defs₀ KernelIdeal.defs₀
  refine congrArg Defs.onTc (funext fun l => ?_)
  obtain ⟨_ | _, h⟩ := l
  · funext ⟨t, s⟩
    rfl
  · exact absurd h (Nat.not_lt.2 (Nat.le_add_left _ _))
theorem same_defs : Kernel.defs (F := F) = KernelIdeal.defs (F := F) :=
  congrArg (Pipeline.defs (KernelIdeal.pcfgs (F := F))) (same_bodies (F := F))

theorem frame_kernel : Cert.quiescent_Kernel := fun m ρ _ => by
  rw [same_defs]
  exact quiet (F := Bits) m ρ

end Cert.KernelIdeal.Ring
-- ==== Proof.RefValue.lean ====
/- What the reference computes: its result array as one function of its four arguments. -/
module

public import proofs.«01_k».proof.Proof.Gen.ReferenceIdeal.Value
public import Idealize.ShloMosaic.Lib.ValueIdx

@[expose] public section

noncomputable section

namespace Cert.RefValue

open Cert.ReferenceIdeal Cert.ReferenceIdeal.Gen Cert.ReferenceIdeal.Value
open Idealize.ShloMosaic Idealize.ShloMosaic.TcCoe Idealize.SL.Sem
open Idealize.ShloMosaic.ValueIdx (ix1 ix2)

variable {F : FTy → Type} [FloatOps F]

/-- The scaled product's positive part, of whole arrays. -/
def whole (x : Vec F S4096x4096 .fp8e4m3) (w : Vec F S4096x8192 .fp8e4m3) (a b : Vec F S1 .f32) : Vec F S4096x8192 .f32 :=
  k0_pay1 x w (a (ix1 0)) (b (ix1 0))

theorem offs_zero : (![0, 0] : Fin 2 → Nat) = fun _ => 0 := funext fun a => by fin_cases a <;> rfl

/-- The one-word array is read at its one index. -/
theorem one_index (i j : S1.Idx) : i = j := by
  funext a; fin_cases a; exact Subsingleton.elim (α := Fin 1) _ _

/-- The body stores `whole` of what its four operands' buffers hold. -/
theorem stored (c : Dev nD) (b0 : Memref sig .tc .vmem S4096x4096 .fp8e4m3) (h0 : b0.IsWhole)
    (b1 : Memref sig .tc .vmem S4096x8192 .fp8e4m3) (h1 : b1.IsWhole) (b2 : Memref sig .tc .smem S1 .f32) (h2 : b2.IsWhole)
    (b3 : Memref sig .tc .smem S1 .f32) (h3 : b3.IsWhole) (b4 : Memref sig .tc .vmem S4096x8192 .f32) (h4 : b4.IsWhole)
    (x : Vec F S4096x4096 .fp8e4m3) (w : Vec F S4096x8192 .fp8e4m3) (a b : Vec F S1 .f32) :
    out0_A_4 c b0 h0 b1 h1 b2 h2 b3 h3 b4 h4 x w a b = whole x w a b := by
  unfold out0_A_4
  rw [View.read_writes_junk_eq_canon]
  show View.canon ([⟨Rect.unit ![0, 0] S4096x8192.size inb_S4096x8192_S4096x8192_0_0,
      k0_pay1
        (View.readAt (Elt F) b0.view (Rect.unit ![0, 0] S4096x4096.size inb_S4096x4096_S4096x4096_0_0).toLoadRect (h0.unread x))
        (View.readAt (Elt F) b1.view (Rect.unit ![0, 0] S4096x8192.size inb_S4096x8192_S4096x8192_0_0).toLoadRect (h1.unread w))
        (View.readAt (Elt F) b2.view (Rect.unit (s := S1) ![0] S1.size inb_S1_S1_0).toLoadRect (h2.unread a) _)
        (View.readAt (Elt F) b3.view (Rect.unit (s := S1) ![0] S1.size inb_S1_S1_0).toLoadRect (h3.unread b) _)⟩] :
      List (View.Piece (Elt F) S4096x8192 .f32)) = _
  rw [View.canon_unit_zero offs_zero]
  simp only [View.readAt_eq_ld, h0.read_unread, h1.read_unread, h2.read_unread, h3.read_unread]
  rw [View.ld_unit_zero offs_zero, View.ld_unit_zero offs_zero]
  unfold whole
  congr 1
  · exact congrArg a (one_index _ _)
  · exact congrArg b (one_index _ _)

variable (m : (ℓ : Loc nD τ sig) → Buf (Elt F) ℓ) (ρ : Dev nD → PrngReg)

/-! ## Every window is its whole array -/

theorem at0 (t : Fin cfg0.N) (j : S4096x4096.Idx) : ((cfg0.win 0).blk t).view.emb j = j := by
  funext a; apply Fin.ext
  match a with
  | ⟨0, _⟩ => show 0 * 4096 + 1 * (j 0).val = (j 0).val; omega
  | ⟨1, _⟩ => show 0 * 4096 + 1 * (j 1).val = (j 1).val; omega
theorem at1 (t : Fin cfg0.N) (j : S4096x8192.Idx) : ((cfg0.win 1).blk t).view.emb j = j := by
  funext a; apply Fin.ext
  match a with
  | ⟨0, _⟩ => show 0 * 4096 + 1 * (j 0).val = (j 0).val; omega
  | ⟨1, _⟩ => show 0 * 8192 + 1 * (j 1).val = (j 1).val; omega
theorem at4 (t : Fin cfg0.N) (j : S4096x8192.Idx) : ((cfg0.win 4).blk t).view.emb j = j := by
  funext a; apply Fin.ext
  match a with
  | ⟨0, _⟩ => show 0 * 4096 + 1 * (j 0).val = (j 0).val; omega
  | ⟨1, _⟩ => show 0 * 8192 + 1 * (j 1).val = (j 1).val; omega

theorem got0 (c : Dev nD) (t : Fin cfg0.N) : iblk m c 0 t = m ((c : Thread nD τ).loc main_arg0) :=
  (show iblk m c 0 t = V m c main_arg0 from funext fun j => congrArg (V m c main_arg0) (at0 t j)).trans (V_main_arg0 m c)
theorem got1 (c : Dev nD) (t : Fin cfg0.N) : iblk m c 1 t = m ((c : Thread nD τ).loc main_arg1) :=
  (show iblk m c 1 t = V m c main_arg1 from funext fun j => congrArg (V m c main_arg1) (at1 t j)).trans (V_main_arg1 m c)
theorem got2 (c : Dev nD) (t : Fin cfg0.N) : iblk m c 2 t = m ((c : Thread nD τ).loc main_arg2) :=
  (show iblk m c 2 t = V m c main_arg2 from funext fun j => congrArg (V m c main_arg2) (one_index _ _)).trans (V_main_arg2 m c)
theorem got3 (c : Dev nD) (t : Fin cfg0.N) : iblk m c 3 t = m ((c : Thread nD τ).loc main_arg3) :=
  (show iblk m c 3 t = V m c main_arg3 from funext fun j => congrArg (V m c main_arg3) (one_index _ _)).trans (V_main_arg3 m c)

/-- The reference's result, of the arguments in memory. -/
abbrev result (c : Dev nD) : Vec F S4096x8192 .f32 :=
  whole (m ((c : Thread nD τ).loc main_arg0)) (m ((c : Thread nD τ).loc main_arg1)) (m ((c : Thread nD τ).loc main_arg2)) (m ((c : Thread nD τ).loc main_arg3))

theorem ends (c : Dev nD) : (dats m 0 c).arrAt 4 cfg0.N = result m c := by
  refine (dats m 0 c).arrAt_eq_of_cover 4 (result m c) (fun t _ => ?_) (fun i => ⟨(⟨0, by decide⟩ : Fin cfg0.N), flush0_4 _, ?_⟩)
  · rw [flushed4_A, stored, got0, got1, got2, got3]
    funext j
    exact congrArg (result m c) (at4 t j).symm
  · have h := ((cfg0.win 4).blk (⟨0, by decide⟩ : Fin cfg0.N)).view.emb_mem_set i
    rwa [at4] at h

/-- The reference runs, and its result array ends holding the scaled product's positive part. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (ends m c), (h c).2⟩) (run_blocks m ρ)

end Cert.RefValue

end
-- ==== Proof.Product.lean ====
/- One entry of a product, in each of the two programs: a sum over the contracted axis, scaled, and its positive part. -/
module

public import proofs.«01_k».proof.Proof.Gen.KernelIdeal.Skeleton
public import proofs.«01_k».proof.Proof.RefValue
public import Idealize.ShloMosaic.Lib.Pointwise

@[expose] public section

set_option maxRecDepth 16384

noncomputable section

namespace Cert.Product

open Idealize.ShloMosaic Idealize.SL.Sem

/-- An entry of the reference. -/
theorem reference_entry (x : Vec Ideal Cert.ReferenceIdeal.S4096x4096 .fp8e4m3) (w : Vec Ideal Cert.ReferenceIdeal.S4096x8192 .fp8e4m3)
    (a b : EReal) (r : Fin 4096) (l : Fin 8192) :
    Cert.ReferenceIdeal.Gen.k0_pay1 (F := Ideal) x w a b (ix2 r l) =
      max ((∑ k : Fin 4096, x (ix2 r k) * w (ix2 k l)) * (a * b)) 0 := by
  pointwise [Cert.ReferenceIdeal.Gen.k0_pay1]

/-- An entry of a block of the kernel. -/
theorem kernel_entry (al : EReal) (x : Vec Ideal Cert.KernelIdeal.S128x4096 .fp8e4m3) (w : Vec Ideal Cert.KernelIdeal.S4096x256 .fp8e4m3)
    (r : Fin 128) (l : Fin 256) :
    Cert.KernelIdeal.Gen.k0_pay5 (F := Ideal) al (Cert.KernelIdeal.Gen.k0_pay3 x) (Cert.KernelIdeal.Gen.k0_pay4 w) (ix2 r l) =
      max ((∑ k : Fin 4096, x (ix2 r k) * w (ix2 k l)) * al) 0 := by
  pointwise [Cert.KernelIdeal.Gen.k0_pay5, Cert.KernelIdeal.Gen.k0_pay3, Cert.KernelIdeal.Gen.k0_pay4]

end Cert.Product

end
-- ==== Proof.Value.lean ====
/- What the kernel leaves in its result array, and that on each device it is that device's columns of the reference's. -/
module

public import proofs.«01_k».proof.Proof.Frames
public import proofs.«01_k».proof.Proof.Product

@[expose] public section

noncomputable section

namespace Cert.KernelIdeal.Ring

open Cert.KernelIdeal.Gen Cert.KernelIdeal.Plan
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## Every window is its whole array -/

theorem at0 (t : Fin cfg0.N) (j : S128x4096.Idx) : ((cfg0.win 0).blk t).view.emb j = j := by
  funext a; apply Fin.ext
  match a with
  | ⟨0, _⟩ => show 0 * 128 + 1 * (j 0).val = (j 0).val; omega
  | ⟨1, _⟩ => show 0 * 4096 + 1 * (j 1).val = (j 1).val; omega
theorem at1 (t : Fin cfg0.N) (j : S4096x256.Idx) : ((cfg0.win 1).blk t).view.emb j = j := by
  funext a; apply Fin.ext
  match a with
  | ⟨0, _⟩ => show 0 * 4096 + 1 * (j 0).val = (j 0).val; omega
  | ⟨1, _⟩ => show 0 * 256 + 1 * (j 1).val = (j 1).val; omega
theorem at4 (t : Fin cfg0.N) (j : S4096x256.Idx) : ((cfg0.win 4).blk t).view.emb j = j := by
  funext a; apply Fin.ext
  match a with
  | ⟨0, _⟩ => show 0 * 4096 + 1 * (j 0).val = (j 0).val; omega
  | ⟨1, _⟩ => show 0 * 256 + 1 * (j 1).val = (j 1).val; omega

theorem xstg_eq (c : Dev nD) : xstg m ρ c = m ((c : Thread nD τ).loc main_arg0) :=
  funext fun j => congrArg (m ((c : Thread nD τ).loc main_arg0)) (at0 t₀ j)
theorem wstg_eq (c : Dev nD) : wstg m ρ c = m ((c : Thread nD τ).loc main_arg1) :=
  funext fun j => congrArg (m ((c : Thread nD τ).loc main_arg1)) (at1 t₀ j)
theorem astg_eq (c : Dev nD) : astg m ρ c = m ((c : Thread nD τ).loc main_arg2) :=
  funext fun j => congrArg (m ((c : Thread nD τ).loc main_arg2)) (RefValue.one_index _ _)
theorem bstg_eq (c : Dev nD) : bstg m ρ c = m ((c : Thread nD τ).loc main_arg3) :=
  funext fun j => congrArg (m ((c : Thread nD τ).loc main_arg3)) (RefValue.one_index _ _)

/-- The result array ends as computed. -/
theorem final_out (c : Dev nD) : finalA m ρ c 4 = outAt m ρ c := by
  refine (dats m ρ 0 c).arrAt_eq_of_cover 4 (outAt m ρ c) (fun t _ => ?_) (fun i => ⟨t₀, by rfl, ?_⟩)
  · rw [fin_N t]
    funext j
    exact congrArg (outAt m ρ c) (at4 t₀ j).symm
  · have h := ((cfg0.win 4).blk t₀).view.emb_mem_set i
    rwa [at4] at h

/-! ## The kernel's result is a block of the reference's -/

section
variable (m : (ℓ : Loc nD τ sig) → Buf (Elt Ideal) ℓ) (ρ : Dev nD → PrngReg)

/-- An entry of a product, scaled by two scales, and its positive part. -/
def entry (x : Vec Ideal S128x4096 .fp8e4m3) (w : Vec Ideal S4096x256 .fp8e4m3) (a b : Vec Ideal S1 .f32) (r : Fin 128) (l : Fin 256) : EReal :=
  max ((∑ k : Fin 4096, x (ix2 r k) * w (ix2 k l)) * (a (ValueIdx.ix1 0) * b (ValueIdx.ix1 0))) 0

/-- An entry of the result on device `c`, in the contents of the arguments. -/
theorem outAt_apply (c : Dev nD) (i : S4096x256.Idx) (o : Dev nD) (ho : o.val = (i 0).val / 128) :
    outAt m ρ c i = entry (m ((o : Thread nD τ).loc main_arg0)) (m ((c : Thread nD τ).loc main_arg1)) (m ((c : Thread nD τ).loc main_arg2))
      (m ((c : Thread nD τ).loc main_arg3)) ⟨(i 0).val % 128, Nat.mod_lt _ (by decide)⟩ (i 1) := by
  have e : (⟨(i 0).val / 128, by have : (i 0).val < 4096 := (i 0).isLt; show _ < 32; omega⟩ : Dev nD) = o := Fin.ext ho.symm
  unfold outAt
  rw [e]
  unfold blockAt chunk wb alpha
  rw [xstg_eq, wstg_eq, astg_eq, bstg_eq]
  exact Product.kernel_entry _ _ _ _ _

/-- On every device the result is that device's columns of the reference's. -/
theorem outAt_block (x : Vec Ideal ReferenceIdeal.S4096x4096 .fp8e4m3) (w : Vec Ideal ReferenceIdeal.S4096x8192 .fp8e4m3) (a b : Vec Ideal S1 .f32)
    (hx : ∀ c : Dev nD, m ((c : Thread nD τ).loc main_arg0) = Layout.block ⟨2, ![128, 4096]⟩ ⟨2, ![4096, 4096]⟩ 0 32 c x)
    (hw : ∀ c : Dev nD, m ((c : Thread nD τ).loc main_arg1) = Layout.block ⟨2, ![4096, 256]⟩ ⟨2, ![4096, 8192]⟩ 1 32 c w)
    (ha : ∀ c : Dev nD, m ((c : Thread nD τ).loc main_arg2) = a) (hb : ∀ c : Dev nD, m ((c : Thread nD τ).loc main_arg3) = b) (c : Dev nD) :
    outAt m ρ c = Layout.block ⟨2, ![4096, 256]⟩ ⟨2, ![4096, 8192]⟩ 1 32 c (RefValue.whole x w a b) := by
  funext i
  have hi0 : (i 0).val < 4096 := (i 0).isLt
  have hi1 : (i 1).val < 256 := (i 1).isLt
  have hc : c.val < 32 := c.isLt
  rw [outAt_apply m ρ c i ⟨(i 0).val / 128, by show _ < 32; omega⟩ rfl, hx, hw, ha, hb, Layout.block_apply]
  unfold entry
  have e (h : Layout.Tiles ⟨2, ![4096, 256]⟩ ⟨2, ![4096, 8192]⟩ 1 32) : h.idx c i = ix2 (i 0) (⟨c.val * 256 + (i 1).val, by omega⟩ : Fin 8192) := by
    funext d; apply Fin.ext
    match d with
    | ⟨0, _⟩ => rfl
    | ⟨1, _⟩ => rfl
  rw [e]
  refine Eq.trans ?_ (Product.reference_entry x w (a (ValueIdx.ix1 0)) (b (ValueIdx.ix1 0)) (i 0) ⟨c.val * 256 + (i 1).val, by omega⟩).symm
  refine congrArg (fun s : EReal => max (s * (a (ValueIdx.ix1 0) * b (ValueIdx.ix1 0)) : EReal) 0) (Finset.sum_congr rfl fun k _ => ?_)
  rw [Layout.block_apply, Layout.block_apply]
  refine congrArg₂ (· * ·) (congrArg x ?_) (congrArg w ?_)
  · funext d; apply Fin.ext
    match d with
    | ⟨0, _⟩ => show (i 0).val / 128 * 128 + (i 0).val % 128 = (i 0).val; omega
    | ⟨1, _⟩ => rfl
  · funext d; apply Fin.ext
    match d with
    | ⟨0, _⟩ => rfl
    | ⟨1, _⟩ => rfl

/-- The value claim: the reference's array exists, and every device ends with its columns of it. -/
theorem value : Cert.algebraic_KernelIdeal_ReferenceIdeal := fun m g m' g' _ h =>
  ⟨RefValue.result m' 0,
    (θ_run defs _ _).mono (fun r hr c => ⟨((hr.1 c 4).trans (final_out m g c)).trans
        (outAt_block m g _ _ _ _ (fun c => (h c).1) (fun c => (h c).2.1) (fun c => (h c).2.2.1) (fun c => (h c).2.2.2) c),
      (hr.1 c 0).trans (kept m g c 0 rfl), (hr.1 c 1).trans (kept m g c 1 rfl),
      (hr.1 c 2).trans (kept m g c 2 rfl), (hr.1 c 3).trans (kept m g c 3 rfl)⟩) (run_main m g),
    (θ_run ReferenceIdeal.defs _ _).mono (fun r hr => hr 0) (RefValue.run m' g')⟩
end

end Cert.KernelIdeal.Ring

end
-- ==== Proof.lean ====
/- The certificate: the frames of the three programs, that the ideal reading rewrites nothing, and that
   each device's result is its columns of the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Frames
public import proofs.«01_k».proof.Proof.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.KernelIdeal.Ring.frame_kernel, Cert.KernelIdeal.Ring.frame_ideal, fun m ρ _ => Cert.ReferenceIdeal.Gen.frame m ρ, trivial, Cert.KernelIdeal.Ring.value⟩

end Cert.Proof

end
